-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x2048x1024 : Shape := ⟨3, ![1, 2048, 1024]⟩
abbrev S1024x1024 : Shape := ⟨2, ![1024, 1024]⟩
abbrev S1x2048x32x128 : Shape := ⟨4, ![1, 2048, 32, 128]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x2048x32x128 : S_.BroadcastsInDim S1x2048x32x128 (![] : Fin 0 → Fin S1x2048x32x128.rank)
  reducesTo_S1x2048x32x128_S_d0_1_2_3 : S1x2048x32x128.ReducesTo [0, 1, 2, 3] S_

variable [Facts]

def fn {F : FTy → Type} [FloatOps F] (main_arg0 : FVec F S1x2048x1024 .f32) (main_arg1 : FVec F S1024x1024 .f32) (main_arg2 : FVec F S1x2048x32x128 .f32) (main_arg3 : FVec F S1x2048x32x128 .f32) (main_arg4 : FVec F S1024x1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x2048x32x128 .f32 := Host.absf main_arg2
  let main_cst_2 : FVec F S_ .f32 := constant S_ .f32 0x7F800000#32
  let main_v10 : FVec F S1x2048x32x128 .f32 := broadcastInDim S1x2048x32x128 ![] bcast_S_S1x2048x32x128 main_cst_2
  let main_v11 : IVec S1x2048x32x128 1 := cmpf .olt main_v9 main_v10
  let main_c_3 : IVec S_ 1 := constantI S_ 1 1#1
  let main_v12 : IVec S_ 1 := (fun x v => Host.reduce IntOp.andi x v reducesTo_S1x2048x32x128_S_d0_1_2_3 h_S_) main_v11 main_c_3
  let main_v13 : IVec S_ 1 := andi main_v8 main_v12
  main_v13
-- ==== Pre_finite_ReferenceIdeal.lean ====
abbrev S1x2048x1024 : Shape := ⟨3, ![1, 2048, 1024]⟩
abbrev S1024x4096 : Shape := ⟨2, ![1024, 4096]⟩
abbrev S1x2048x32x128 : Shape := ⟨4, ![1, 2048, 32, 128]⟩
abbrev S4096x1024 : Shape := ⟨2, ![4096, 1024]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S1x2048x32x128 : S_.BroadcastsInDim S1x2048x32x128 (![] : Fin 0 → Fin S1x2048x32x128.rank)
  reducesTo_S1x2048x32x128_S_d0_1_2_3 : S1x2048x32x128.ReducesTo [0, 1, 2, 3] S_

variable [Facts]

def fn {F : FTy → Type} [FloatOps F] (main_arg0 : FVec F S1x2048x1024 .f32) (main_arg1 : FVec F S1024x4096 .f32) (main_arg2 : FVec F S1x2048x32x128 .f32) (main_arg3 : FVec F S1x2048x32x128 .f32) (main_arg4 : FVec F S4096x1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S1x2048x32x128 .f32 := Host.absf main_arg2
  let main_cst_2 : FVec F S_ .f32 := constant S_ .f32 0x7F800000#32
  let main_v10 : FVec F S1x2048x32x128 .f32 := broadcastInDim S1x2048x32x128 ![] bcast_S_S1x2048x32x128 main_cst_2
  let main_v11 : IVec S1x2048x32x128 1 := cmpf .olt main_v9 main_v10
  let main_c_3 : IVec S_ 1 := constantI S_ 1 1#1
  let main_v12 : IVec S_ 1 := (fun x v => Host.reduce IntOp.andi x v reducesTo_S1x2048x32x128_S_d0_1_2_3 h_S_) main_v11 main_c_3
  let main_v13 : IVec S_ 1 := andi main_v8 main_v12
  main_v13
-- ==== Kernel.lean ====
abbrev S1x2048x1024 : Shape := ⟨3, ![1, 2048, 1024]⟩
abbrev S1024x1024 : Shape := ⟨2, ![1024, 1024]⟩
abbrev S1x2048x32x128 : Shape := ⟨4, ![1, 2048, 32, 128]⟩
abbrev S2048x1024 : Shape := ⟨2, ![2048, 1024]⟩
abbrev S2x2048x1x128 : Shape := ⟨4, ![2, 2048, 1, 128]⟩
abbrev S2x2 : Shape := ⟨2, ![2, 2]⟩
abbrev S6x256x1024 : Shape := ⟨3, ![6, 256, 1024]⟩
abbrev S256x1024 : Shape := ⟨2, ![256, 1024]⟩
abbrev S2x6 : Shape := ⟨2, ![2, 6]⟩
abbrev S1x1 : Shape := ⟨2, ![1, 1]⟩
abbrev S_ : Shape := ⟨0, ![]⟩
abbrev S1x2048x1x128 : Shape := ⟨4, ![1, 2048, 1, 128]⟩
abbrev S2048x1x128 : Shape := ⟨3, ![2048, 1, 128]⟩
abbrev S2048x128 : Shape := ⟨2, ![2048, 128]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S1024x128 : Shape := ⟨2, ![1024, 128]⟩
abbrev S512x1024 : Shape := ⟨2, ![512, 1024]⟩
abbrev S1536x128 : Shape := ⟨2, ![1536, 128]⟩
abbrev S512x1536 : Shape := ⟨2, ![512, 1536]⟩
abbrev S1x256x1024 : Shape := ⟨3, ![1, 256, 1024]⟩

abbrev nBuf : Space → Nat
  | .hbm => 6
  | .vmem => 12
  | .smem => 0
  | _ => 0

abbrev bufTy : (tb : Table) → Fin (tcTables nBuf tb) → BufTy
  | .hbm, ⟨0, _⟩ => ⟨S1x2048x1024, .f32⟩
  | .hbm, ⟨1, _⟩ => ⟨S1024x1024, .f32⟩
  | .hbm, ⟨2, _⟩ => ⟨S1x2048x32x128, .f32⟩
  | .hbm, ⟨3, _⟩ => ⟨S1x2048x32x128, .f32⟩
  | .hbm, ⟨4, _⟩ => ⟨S1024x1024, .f32⟩
  | .hbm, ⟨5, _⟩ => ⟨S2048x1024, .f32⟩
  | .local _ .vmem, ⟨0, _⟩ => ⟨S1x2048x1024, .f32⟩
  | .local _ .vmem, ⟨1, _⟩ => ⟨S1024x1024, .f32⟩
  | .local _ .vmem, ⟨2, _⟩ => ⟨S1024x1024, .f32⟩
  | .local _ .vmem, ⟨3, _⟩ => ⟨S2048x1024, .f32⟩
  | .local _ .vmem, ⟨4, _⟩ => ⟨S2048x1024, .bf16⟩
  | .local _ .vmem, ⟨5, _⟩ => ⟨S2048x1024, .bf16⟩
  | .local _ .vmem, ⟨6, _⟩ => ⟨S2x2048x1x128, .f32⟩
  | .local _ .vmem, ⟨7, _⟩ => ⟨S2x2048x1x128, .f32⟩
  | .local _ .vmem, ⟨8, _⟩ => ⟨S6x256x1024, .bf16⟩
  | .local _ .vmem, ⟨9, _⟩ => ⟨S6x256x1024, .bf16⟩
  | .local _ .vmem, ⟨10, _⟩ => ⟨S256x1024, .bf16⟩
  | .local _ .vmem, ⟨11, _⟩ => ⟨S256x1024, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  (ofTc nBuf bufTy 1 32 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_0 : BitVec 32 := 0#32
  let v5 : BitVec 1 := Scalar.cmpi .ne v4 c0_i32_0
  v5

def k0_off1 (d0 : Dev nD) : Fin 4 → Nat :=
  let c0_i32_75 : BitVec 32 := 0#32
  let c0_i32_82 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_73 : BitVec 32 := 8#32
  let v207 : BitVec 32 := Scalar.muli v2 c8_i32_73
  let c0_i32_74 : BitVec 32 := 0#32
  let v208 : BitVec 32 := Scalar.addi v207 c0_i32_74
  let c0_i32_83 : BitVec 32 := 0#32
  ![0, 0, v208.toNat, 0]
def k0_cond2 (i : grid0.Coords) : BitVec 1 :=
  let arg0 : BitVec 32 := BitVec.ofNat 32 (i 0).val
  let c7_i32 : BitVec 32 := 7#32
  let v6 : BitVec 1 := Scalar.cmpi .slt arg0 c7_i32
  let v7 : BitVec 32 := Scalar.extui v6
  let c0_i32_1 : BitVec 32 := 0#32
  let v8 : BitVec 1 := Scalar.cmpi .ne v7 c0_i32_1
  v8

def k0_off2 (i : grid0.Coords) : Fin 2 → Nat :=
  let c0_i32_83 : BitVec 32 := 0#32
  let arg0 : BitVec 32 := BitVec.ofNat 32 (i 0).val
  let c1_i32_73 : BitVec 32 := 1#32
  let v207 : BitVec 32 := Scalar.addi arg0 c1_i32_73
  let c2_i32_74 : BitVec 32 := 2#32
  let c0_i32_75 : BitVec 32 := 0#32
  let v208 : BitVec 1 := Scalar.cmpi .eq c2_i32_74 c0_i32_75
  let c1_i32_76 : BitVec 32 := 1#32
  let v209 : BitVec 32 := Scalar.select v208 c1_i32_76 c2_i32_74
  let v210 : BitVec 32 := Scalar.remsi v207 v209
  let c0_i32_78 : BitVec 32 := 0#32
  let v212 : BitVec 1 := Scalar.cmpi .slt v210 c0_i32_78
  let c0_i32_79 : BitVec 32 := 0#32
  let v213 : BitVec 1 := Scalar.cmpi .slt v209 c0_i32_79
  let v214 : BitVec 1 := Scalar.xori v212 v213
  let c0_i32_77 : BitVec 32 := 0#32
  let v211 : BitVec 1 := Scalar.cmpi .ne v210 c0_i32_77
  let v215 : BitVec 1 := Scalar.andi v214 v211
  let v216 : BitVec 32 := Scalar.addi v210 v209
  let v217 : BitVec 32 := Scalar.select v215 v216 v210
  ![0, v217.toNat]
def k0_off3 (i : grid0.Coords) : Fin 4 → Nat :=
  let arg0 : BitVec 32 := BitVec.ofNat 32 (i 0).val
  let c1_i32_73 : BitVec 32 := 1#32
  let v207 : BitVec 32 := Scalar.addi arg0 c1_i32_73
  let c2_i32_74 : BitVec 32 := 2#32
  let c0_i32_75 : BitVec 32 := 0#32
  let v208 : BitVec 1 := Scalar.cmpi .eq c2_i32_74 c0_i32_75
  let c1_i32_76 : BitVec 32 := 1#32
  let v209 : BitVec 32 := Scalar.select v208 c1_i32_76 c2_i32_74
  let v210 : BitVec 32 := Scalar.remsi v207 v209
  let c0_i32_78 : BitVec 32 := 0#32
  let v212 : BitVec 1 := Scalar.cmpi .slt v210 c0_i32_78
  let c0_i32_79 : BitVec 32 := 0#32
  let v213 : BitVec 1 := Scalar.cmpi .slt v209 c0_i32_79
  let v214 : BitVec 1 := Scalar.xori v212 v213
  let c0_i32_77 : BitVec 32 := 0#32
  let v211 : BitVec 1 := Scalar.cmpi .ne v210 c0_i32_77
  let v215 : BitVec 1 := Scalar.andi v214 v211
  let v216 : BitVec 32 := Scalar.addi v210 v209
  let v217 : BitVec 32 := Scalar.select v215 v216 v210
  let c0_i32_84 : BitVec 32 := 0#32
  let c0_i32_85 : BitVec 32 := 0#32
  let c0_i32_86 : BitVec 32 := 0#32
  ![v217.toNat, 0, 0, 0]
def k0_off4 (i : grid0.Coords) (d0 : Dev nD) : Fin 4 → Nat :=
  let c0_i32_82 : BitVec 32 := 0#32
  let c0_i32_87 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_81 : BitVec 32 := 8#32
  let v219 : BitVec 32 := Scalar.muli v2 c8_i32_81
  let arg0 : BitVec 32 := BitVec.ofNat 32 (i 0).val
  let c1_i32_80 : BitVec 32 := 1#32
  let v218 : BitVec 32 := Scalar.addi arg0 c1_i32_80
  let v220 : BitVec 32 := Scalar.addi v219 v218
  let c0_i32_88 : BitVec 32 := 0#32
  ![0, 0, v220.toNat, 0]
def k0_off5 (i : grid0.Coords) : Fin 2 → Nat :=
  let c1_i32_90 : BitVec 32 := 1#32
  let arg0 : BitVec 32 := BitVec.ofNat 32 (i 0).val
  let c1_i32_73 : BitVec 32 := 1#32
  let v207 : BitVec 32 := Scalar.addi arg0 c1_i32_73
  let c2_i32_74 : BitVec 32 := 2#32
  let c0_i32_75 : BitVec 32 := 0#32
  let v208 : BitVec 1 := Scalar.cmpi .eq c2_i32_74 c0_i32_75
  let c1_i32_76 : BitVec 32 := 1#32
  let v209 : BitVec 32 := Scalar.select v208 c1_i32_76 c2_i32_74
  let v210 : BitVec 32 := Scalar.remsi v207 v209
  let c0_i32_78 : BitVec 32 := 0#32
  let v212 : BitVec 1 := Scalar.cmpi .slt v210 c0_i32_78
  let c0_i32_79 : BitVec 32 := 0#32
  let v213 : BitVec 1 := Scalar.cmpi .slt v209 c0_i32_79
  let v214 : BitVec 1 := Scalar.xori v212 v213
  let c0_i32_77 : BitVec 32 := 0#32
  let v211 : BitVec 1 := Scalar.cmpi .ne v210 c0_i32_77
  let v215 : BitVec 1 := Scalar.andi v214 v211
  let v216 : BitVec 32 := Scalar.addi v210 v209
  let v217 : BitVec 32 := Scalar.select v215 v216 v210
  ![1, v217.toNat]
def k0_off6 (i : grid0.Coords) : Fin 2 → Nat :=
  let c0_i32_10 : BitVec 32 := 0#32
  let arg0 : BitVec 32 := BitVec.ofNat 32 (i 0).val
  let c2_i32 : BitVec 32 := 2#32
  let c0_i32_4 : BitVec 32 := 0#32
  let v12 : BitVec 1 := Scalar.cmpi .eq c2_i32 c0_i32_4
  let c1_i32_5 : BitVec 32 := 1#32
  let v13 : BitVec 32 := Scalar.select v12 c1_i32_5 c2_i32
  let v14 : BitVec 32 := Scalar.remsi arg0 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  ![0, v21.toNat]
def k0_off7 (i : grid0.Coords) : Fin 4 → Nat :=
  let arg0 : BitVec 32 := BitVec.ofNat 32 (i 0).val
  let c2_i32 : BitVec 32 := 2#32
  let c0_i32_4 : BitVec 32 := 0#32
  let v12 : BitVec 1 := Scalar.cmpi .eq c2_i32 c0_i32_4
  let c1_i32_5 : BitVec 32 := 1#32
  let v13 : BitVec 32 := Scalar.select v12 c1_i32_5 c2_i32
  let v14 : BitVec 32 := Scalar.remsi arg0 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c0_i32_11 : BitVec 32 := 0#32
  let c0_i32_12 : BitVec 32 := 0#32
  let c0_i32_13 : BitVec 32 := 0#32
  ![v21.toNat, 0, 0, 0]
def k0_off8 (i : grid0.Coords) (d0 : Dev nD) : Fin 4 → Nat :=
  let c0_i32_9 : BitVec 32 := 0#32
  let c0_i32_14 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v22 : BitVec 32 := Scalar.muli v2 c8_i32
  let arg0 : BitVec 32 := BitVec.ofNat 32 (i 0).val
  let v23 : BitVec 32 := Scalar.addi v22 arg0
  let c0_i32_15 : BitVec 32 := 0#32
  ![0, 0, v23.toNat, 0]
def k0_off9 (i : grid0.Coords) : Fin 2 → Nat :=
  let c1_i32_17 : BitVec 32 := 1#32
  let arg0 : BitVec 32 := BitVec.ofNat 32 (i 0).val
  let c2_i32 : BitVec 32 := 2#32
  let c0_i32_4 : BitVec 32 := 0#32
  let v12 : BitVec 1 := Scalar.cmpi .eq c2_i32 c0_i32_4
  let c1_i32_5 : BitVec 32 := 1#32
  let v13 : BitVec 32 := Scalar.select v12 c1_i32_5 c2_i32
  let v14 : BitVec 32 := Scalar.remsi arg0 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  ![1, v21.toNat]
def k0_off10 (i : grid0.Coords) : Fin 4 → Nat :=
  let arg0 : BitVec 32 := BitVec.ofNat 32 (i 0).val
  let c2_i32 : BitVec 32 := 2#32
  let c0_i32_4 : BitVec 32 := 0#32
  let v12 : BitVec 1 := Scalar.cmpi .eq c2_i32 c0_i32_4
  let c1_i32_5 : BitVec 32 := 1#32
  let v13 : BitVec 32 := Scalar.select v12 c1_i32_5 c2_i32
  let v14 : BitVec 32 := Scalar.remsi arg0 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let v36 : Index := Scalar.indexCast v21
  let c0 : Index := 0#32
  let c0_23 : Index := 0#32
  let c0_24 : Index := 0#32
  ![v36.toNat, 0, 0, 0]
def k0_off11 (i : grid0.Coords) : Fin 2 → Nat :=
  let c0_28 : Index := 0#32
  let arg0 : BitVec 32 := BitVec.ofNat 32 (i 0).val
  let c128_i32 : BitVec 32 := 128#32
  let v44 : BitVec 32 := Scalar.muli arg0 c128_i32
  let v45 : Index := Scalar.indexCast v44
  ![0, v45.toNat]
def k0_off12 (i : grid0.Coords) : Fin 2 → Nat :=
  let c0_46 : Index := 0#32
  let arg0 : BitVec 32 := BitVec.ofNat 32 (i 0).val
  let c128_i32_45 : BitVec 32 := 128#32
  let v112 : BitVec 32 := Scalar.muli arg0 c128_i32_45
  let v113 : Index := Scalar.indexCast v112
  ![0, v113.toNat]
def k0_off13 (i : grid0.Coords) : Fin 2 → Nat :=
  let c512 : Index := 512#32
  let arg0 : BitVec 32 := BitVec.ofNat 32 (i 0).val
  let c128_i32_54 : BitVec 32 := 128#32
  let v141 : BitVec 32 := Scalar.muli arg0 c128_i32_54
  let v142 : Index := Scalar.indexCast v141
  ![512, v142.toNat]
def k0_off14 (i : grid0.Coords) : Fin 2 → Nat :=
  let c1024 : Index := 1024#32
  let arg0 : BitVec 32 := BitVec.ofNat 32 (i 0).val
  let c128_i32_62 : BitVec 32 := 128#32
  let v170 : BitVec 32 := Scalar.muli arg0 c128_i32_62
  let v171 : Index := Scalar.indexCast v170
  ![1024, v171.toNat]
def k0_off15 (i : grid0.Coords) : Fin 2 → Nat :=
  let c1536 : Index := 1536#32
  let arg0 : BitVec 32 := BitVec.ofNat 32 (i 0).val
  let c128_i32_70 : BitVec 32 := 128#32
  let v199 : BitVec 32 := Scalar.muli arg0 c128_i32_70
  let v200 : Index := Scalar.indexCast v199
  ![1536, v200.toNat]
def k0_cond4 (i : grid0.Coords) : BitVec 1 :=
  let arg0 : BitVec 32 := BitVec.ofNat 32 (i 0).val
  let c7_i32_71 : BitVec 32 := 7#32
  let v204 : BitVec 1 := Scalar.cmpi .eq arg0 c7_i32_71
  let v205 : BitVec 32 := Scalar.extui v204
  let c0_i32_72 : BitVec 32 := 0#32
  let v206 : BitVec 1 := Scalar.cmpi .ne v205 c0_i32_72
  v206

def k0_dev1 (d0 : Dev nD) : Nat :=
  let c0_i32_98 : BitVec 32 := 0#32
  let v213 : BitVec 32 := Dev.word d0
  let c1_i32_81 : BitVec 32 := 1#32
  let v214 : BitVec 32 := Scalar.divsi v213 c1_i32_81
  let c4_i32_80 : BitVec 32 := 4#32
  let v215 : BitVec 32 := Scalar.remsi v214 c4_i32_80
  let c1_i32_82 : BitVec 32 := 1#32
  let v216 : BitVec 32 := Scalar.subi v215 c1_i32_82
  let c4_i32_83 : BitVec 32 := 4#32
  let c0_i32_84 : BitVec 32 := 0#32
  let v217 : BitVec 1 := Scalar.cmpi .eq c4_i32_83 c0_i32_84
  let c1_i32_85 : BitVec 32 := 1#32
  let v218 : BitVec 32 := Scalar.select v217 c1_i32_85 c4_i32_83
  let v219 : BitVec 32 := Scalar.remsi v216 v218
  let c0_i32_87 : BitVec 32 := 0#32
  let v221 : BitVec 1 := Scalar.cmpi .slt v219 c0_i32_87
  let c0_i32_88 : BitVec 32 := 0#32
  let v222 : BitVec 1 := Scalar.cmpi .slt v218 c0_i32_88
  let v223 : BitVec 1 := Scalar.xori v221 v222
  let c0_i32_86 : BitVec 32 := 0#32
  let v220 : BitVec 1 := Scalar.cmpi .ne v219 c0_i32_86
  let v224 : BitVec 1 := Scalar.andi v223 v220
  let v225 : BitVec 32 := Scalar.addi v219 v218
  let v226 : BitVec 32 := Scalar.select v224 v225 v219
  let c1_i32_97 : BitVec 32 := 1#32
  let v239 : BitVec 32 := Scalar.muli v226 c1_i32_97
  let v240 : BitVec 32 := Scalar.addi c0_i32_98 v239
  v240.toNat
def k0_dev2 (d0 : Dev nD) : Nat :=
  let c0_i32_101 : BitVec 32 := 0#32
  let v213 : BitVec 32 := Dev.word d0
  let c1_i32_81 : BitVec 32 := 1#32
  let v214 : BitVec 32 := Scalar.divsi v213 c1_i32_81
  let c4_i32_80 : BitVec 32 := 4#32
  let v215 : BitVec 32 := Scalar.remsi v214 c4_i32_80
  let c1_i32_89 : BitVec 32 := 1#32
  let v227 : BitVec 32 := Scalar.addi v215 c1_i32_89
  let c4_i32_90 : BitVec 32 := 4#32
  let c0_i32_91 : BitVec 32 := 0#32
  let v228 : BitVec 1 := Scalar.cmpi .eq c4_i32_90 c0_i32_91
  let c1_i32_92 : BitVec 32 := 1#32
  let v229 : BitVec 32 := Scalar.select v228 c1_i32_92 c4_i32_90
  let v230 : BitVec 32 := Scalar.remsi v227 v229
  let c0_i32_94 : BitVec 32 := 0#32
  let v232 : BitVec 1 := Scalar.cmpi .slt v230 c0_i32_94
  let c0_i32_95 : BitVec 32 := 0#32
  let v233 : BitVec 1 := Scalar.cmpi .slt v229 c0_i32_95
  let v234 : BitVec 1 := Scalar.xori v232 v233
  let c0_i32_93 : BitVec 32 := 0#32
  let v231 : BitVec 1 := Scalar.cmpi .ne v230 c0_i32_93
  let v235 : BitVec 1 := Scalar.andi v234 v231
  let v236 : BitVec 32 := Scalar.addi v230 v229
  let v237 : BitVec 32 := Scalar.select v235 v236 v230
  let c1_i32_100 : BitVec 32 := 1#32
  let v241 : BitVec 32 := Scalar.muli v237 c1_i32_100
  let v242 : BitVec 32 := Scalar.addi c0_i32_101 v241
  v242.toNat
def k0_off16 (d0 : Dev nD) (c0_i32_103 : BitVec 32) : Fin 2 → Nat :=
  let v213 : BitVec 32 := Dev.word d0
  let c1_i32_81 : BitVec 32 := 1#32
  let v214 : BitVec 32 := Scalar.divsi v213 c1_i32_81
  let c4_i32_80 : BitVec 32 := 4#32
  let v215 : BitVec 32 := Scalar.remsi v214 c4_i32_80
  let v243 : BitVec 32 := Scalar.subi v215 c0_i32_103
  let c4_i32_104 : BitVec 32 := 4#32
  let c0_i32_105 : BitVec 32 := 0#32
  let v244 : BitVec 1 := Scalar.cmpi .eq c4_i32_104 c0_i32_105
  let c1_i32_106 : BitVec 32 := 1#32
  let v245 : BitVec 32 := Scalar.select v244 c1_i32_106 c4_i32_104
  let v246 : BitVec 32 := Scalar.remsi v243 v245
  let c0_i32_108 : BitVec 32 := 0#32
  let v248 : BitVec 1 := Scalar.cmpi .slt v246 c0_i32_108
  let c0_i32_109 : BitVec 32 := 0#32
  let v249 : BitVec 1 := Scalar.cmpi .slt v245 c0_i32_109
  let v250 : BitVec 1 := Scalar.xori v248 v249
  let c0_i32_107 : BitVec 32 := 0#32
  let v247 : BitVec 1 := Scalar.cmpi .ne v246 c0_i32_107
  let v251 : BitVec 1 := Scalar.andi v250 v247
  let v252 : BitVec 32 := Scalar.addi v246 v245
  let v253 : BitVec 32 := Scalar.select v251 v252 v246
  let c256_i32 : BitVec 32 := 256#32
  let v254 : BitVec 32 := Scalar.muli v253 c256_i32
  let v255 : Index := Scalar.indexCast v254
  let c0_110 : Index := 0#32
  ![v255.toNat, 0]
def k0_off17 (d0 : Dev nD) (c0_i32_113 : BitVec 32) : Fin 2 → Nat :=
  let c1024_i32 : BitVec 32 := 1024#32
  let v213 : BitVec 32 := Dev.word d0
  let c1_i32_81 : BitVec 32 := 1#32
  let v214 : BitVec 32 := Scalar.divsi v213 c1_i32_81
  let c4_i32_80 : BitVec 32 := 4#32
  let v215 : BitVec 32 := Scalar.remsi v214 c4_i32_80
  let v262 : BitVec 32 := Scalar.addi v215 c0_i32_113
  let c4_i32_114 : BitVec 32 := 4#32
  let c0_i32_115 : BitVec 32 := 0#32
  let v263 : BitVec 1 := Scalar.cmpi .eq c4_i32_114 c0_i32_115
  let c1_i32_116 : BitVec 32 := 1#32
  let v264 : BitVec 32 := Scalar.select v263 c1_i32_116 c4_i32_114
  let v265 : BitVec 32 := Scalar.remsi v262 v264
  let c0_i32_118 : BitVec 32 := 0#32
  let v267 : BitVec 1 := Scalar.cmpi .slt v265 c0_i32_118
  let c0_i32_119 : BitVec 32 := 0#32
  let v268 : BitVec 1 := Scalar.cmpi .slt v264 c0_i32_119
  let v269 : BitVec 1 := Scalar.xori v267 v268
  let c0_i32_117 : BitVec 32 := 0#32
  let v266 : BitVec 1 := Scalar.cmpi .ne v265 c0_i32_117
  let v270 : BitVec 1 := Scalar.andi v269 v266
  let v271 : BitVec 32 := Scalar.addi v265 v264
  let v272 : BitVec 32 := Scalar.select v270 v271 v265
  let c256_i32_120 : BitVec 32 := 256#32
  let v273 : BitVec 32 := Scalar.muli v272 c256_i32_120
  let v274 : BitVec 32 := Scalar.addi c1024_i32 v273
  let v275 : Index := Scalar.indexCast v274
  let c0_121 : Index := 0#32
  ![v275.toNat, 0]
def k0_dev3 (d0 : Dev nD) : Nat :=
  let c0_i32_130 : BitVec 32 := 0#32
  let v213 : BitVec 32 := Dev.word d0
  let c1_i32_81 : BitVec 32 := 1#32
  let v214 : BitVec 32 := Scalar.divsi v213 c1_i32_81
  let c4_i32_80 : BitVec 32 := 4#32
  let v215 : BitVec 32 := Scalar.remsi v214 c4_i32_80
  let c1_i32_89 : BitVec 32 := 1#32
  let v227 : BitVec 32 := Scalar.addi v215 c1_i32_89
  let c4_i32_90 : BitVec 32 := 4#32
  let c0_i32_91 : BitVec 32 := 0#32
  let v228 : BitVec 1 := Scalar.cmpi .eq c4_i32_90 c0_i32_91
  let c1_i32_92 : BitVec 32 := 1#32
  let v229 : BitVec 32 := Scalar.select v228 c1_i32_92 c4_i32_90
  let v230 : BitVec 32 := Scalar.remsi v227 v229
  let c0_i32_94 : BitVec 32 := 0#32
  let v232 : BitVec 1 := Scalar.cmpi .slt v230 c0_i32_94
  let c0_i32_95 : BitVec 32 := 0#32
  let v233 : BitVec 1 := Scalar.cmpi .slt v229 c0_i32_95
  let v234 : BitVec 1 := Scalar.xori v232 v233
  let c0_i32_93 : BitVec 32 := 0#32
  let v231 : BitVec 1 := Scalar.cmpi .ne v230 c0_i32_93
  let v235 : BitVec 1 := Scalar.andi v234 v231
  let v236 : BitVec 32 := Scalar.addi v230 v229
  let v237 : BitVec 32 := Scalar.select v235 v236 v230
  let c1_i32_129 : BitVec 32 := 1#32
  let v282 : BitVec 32 := Scalar.muli v237 c1_i32_129
  let v283 : BitVec 32 := Scalar.addi c0_i32_130 v282
  v283.toNat
def k0_dev4 (d0 : Dev nD) : Nat :=
  let c0_i32_139 : BitVec 32 := 0#32
  let v213 : BitVec 32 := Dev.word d0
  let c1_i32_81 : BitVec 32 := 1#32
  let v214 : BitVec 32 := Scalar.divsi v213 c1_i32_81
  let c4_i32_80 : BitVec 32 := 4#32
  let v215 : BitVec 32 := Scalar.remsi v214 c4_i32_80
  let c1_i32_82 : BitVec 32 := 1#32
  let v216 : BitVec 32 := Scalar.subi v215 c1_i32_82
  let c4_i32_83 : BitVec 32 := 4#32
  let c0_i32_84 : BitVec 32 := 0#32
  let v217 : BitVec 1 := Scalar.cmpi .eq c4_i32_83 c0_i32_84
  let c1_i32_85 : BitVec 32 := 1#32
  let v218 : BitVec 32 := Scalar.select v217 c1_i32_85 c4_i32_83
  let v219 : BitVec 32 := Scalar.remsi v216 v218
  let c0_i32_87 : BitVec 32 := 0#32
  let v221 : BitVec 1 := Scalar.cmpi .slt v219 c0_i32_87
  let c0_i32_88 : BitVec 32 := 0#32
  let v222 : BitVec 1 := Scalar.cmpi .slt v218 c0_i32_88
  let v223 : BitVec 1 := Scalar.xori v221 v222
  let c0_i32_86 : BitVec 32 := 0#32
  let v220 : BitVec 1 := Scalar.cmpi .ne v219 c0_i32_86
  let v224 : BitVec 1 := Scalar.andi v223 v220
  let v225 : BitVec 32 := Scalar.addi v219 v218
  let v226 : BitVec 32 := Scalar.select v224 v225 v219
  let c1_i32_138 : BitVec 32 := 1#32
  let v290 : BitVec 32 := Scalar.muli v226 c1_i32_138
  let v291 : BitVec 32 := Scalar.addi c0_i32_139 v290
  v291.toNat
def k0_off18 (d0 : Dev nD) (c0_i32_177 : BitVec 32) : Fin 2 → Nat :=
  let v213 : BitVec 32 := Dev.word d0
  let c1_i32_81 : BitVec 32 := 1#32
  let v214 : BitVec 32 := Scalar.divsi v213 c1_i32_81
  let c4_i32_80 : BitVec 32 := 4#32
  let v215 : BitVec 32 := Scalar.remsi v214 c4_i32_80
  let c1_i32_176 : BitVec 32 := 1#32
  let v318 : BitVec 32 := Scalar.subi v215 c1_i32_176
  let v319 : BitVec 32 := Scalar.subi v318 c0_i32_177
  let c4_i32_178 : BitVec 32 := 4#32
  let c0_i32_179 : BitVec 32 := 0#32
  let v320 : BitVec 1 := Scalar.cmpi .eq c4_i32_178 c0_i32_179
  let c1_i32_180 : BitVec 32 := 1#32
  let v321 : BitVec 32 := Scalar.select v320 c1_i32_180 c4_i32_178
  let v322 : BitVec 32 := Scalar.remsi v319 v321
  let c0_i32_182 : BitVec 32 := 0#32
  let v324 : BitVec 1 := Scalar.cmpi .slt v322 c0_i32_182
  let c0_i32_183 : BitVec 32 := 0#32
  let v325 : BitVec 1 := Scalar.cmpi .slt v321 c0_i32_183
  let v326 : BitVec 1 := Scalar.xori v324 v325
  let c0_i32_181 : BitVec 32 := 0#32
  let v323 : BitVec 1 := Scalar.cmpi .ne v322 c0_i32_181
  let v327 : BitVec 1 := Scalar.andi v326 v323
  let v328 : BitVec 32 := Scalar.addi v322 v321
  let v329 : BitVec 32 := Scalar.select v327 v328 v322
  let c256_i32_184 : BitVec 32 := 256#32
  let v330 : BitVec 32 := Scalar.muli v329 c256_i32_184
  let v331 : Index := Scalar.indexCast v330
  let c0_185 : Index := 0#32
  ![v331.toNat, 0]
def k0_off19 (d0 : Dev nD) (c0_i32_191 : BitVec 32) : Fin 2 → Nat :=
  let c1024_i32_199 : BitVec 32 := 1024#32
  let v213 : BitVec 32 := Dev.word d0
  let c1_i32_81 : BitVec 32 := 1#32
  let v214 : BitVec 32 := Scalar.divsi v213 c1_i32_81
  let c4_i32_80 : BitVec 32 := 4#32
  let v215 : BitVec 32 := Scalar.remsi v214 c4_i32_80
  let c1_i32_190 : BitVec 32 := 1#32
  let v340 : BitVec 32 := Scalar.addi v215 c1_i32_190
  let v341 : BitVec 32 := Scalar.addi v340 c0_i32_191
  let c4_i32_192 : BitVec 32 := 4#32
  let c0_i32_193 : BitVec 32 := 0#32
  let v342 : BitVec 1 := Scalar.cmpi .eq c4_i32_192 c0_i32_193
  let c1_i32_194 : BitVec 32 := 1#32
  let v343 : BitVec 32 := Scalar.select v342 c1_i32_194 c4_i32_192
  let v344 : BitVec 32 := Scalar.remsi v341 v343
  let c0_i32_196 : BitVec 32 := 0#32
  let v346 : BitVec 1 := Scalar.cmpi .slt v344 c0_i32_196
  let c0_i32_197 : BitVec 32 := 0#32
  let v347 : BitVec 1 := Scalar.cmpi .slt v343 c0_i32_197
  let v348 : BitVec 1 := Scalar.xori v346 v347
  let c0_i32_195 : BitVec 32 := 0#32
  let v345 : BitVec 1 := Scalar.cmpi .ne v344 c0_i32_195
  let v349 : BitVec 1 := Scalar.andi v348 v345
  let v350 : BitVec 32 := Scalar.addi v344 v343
  let v351 : BitVec 32 := Scalar.select v349 v350 v344
  let c256_i32_198 : BitVec 32 := 256#32
  let v352 : BitVec 32 := Scalar.muli v351 c256_i32_198
  let v353 : BitVec 32 := Scalar.addi c1024_i32_199 v352
  let v354 : Index := Scalar.indexCast v353
  let c0_200 : Index := 0#32
  ![v354.toNat, 0]
def k0_dev5 (d0 : Dev nD) : Nat :=
  let c0_i32_234 : BitVec 32 := 0#32
  let v213 : BitVec 32 := Dev.word d0
  let c1_i32_81 : BitVec 32 := 1#32
  let v214 : BitVec 32 := Scalar.divsi v213 c1_i32_81
  let c4_i32_80 : BitVec 32 := 4#32
  let v215 : BitVec 32 := Scalar.remsi v214 c4_i32_80
  let c1_i32_89 : BitVec 32 := 1#32
  let v227 : BitVec 32 := Scalar.addi v215 c1_i32_89
  let c4_i32_90 : BitVec 32 := 4#32
  let c0_i32_91 : BitVec 32 := 0#32
  let v228 : BitVec 1 := Scalar.cmpi .eq c4_i32_90 c0_i32_91
  let c1_i32_92 : BitVec 32 := 1#32
  let v229 : BitVec 32 := Scalar.select v228 c1_i32_92 c4_i32_90
  let v230 : BitVec 32 := Scalar.remsi v227 v229
  let c0_i32_94 : BitVec 32 := 0#32
  let v232 : BitVec 1 := Scalar.cmpi .slt v230 c0_i32_94
  let c0_i32_95 : BitVec 32 := 0#32
  let v233 : BitVec 1 := Scalar.cmpi .slt v229 c0_i32_95
  let v234 : BitVec 1 := Scalar.xori v232 v233
  let c0_i32_93 : BitVec 32 := 0#32
  let v231 : BitVec 1 := Scalar.cmpi .ne v230 c0_i32_93
  let v235 : BitVec 1 := Scalar.andi v234 v231
  let v236 : BitVec 32 := Scalar.addi v230 v229
  let v237 : BitVec 32 := Scalar.select v235 v236 v230
  let c1_i32_233 : BitVec 32 := 1#32
  let v402 : BitVec 32 := Scalar.muli v237 c1_i32_233
  let v403 : BitVec 32 := Scalar.addi c0_i32_234 v402
  v403.toNat
def k0_dev6 (d0 : Dev nD) : Nat :=
  let c0_i32_243 : BitVec 32 := 0#32
  let v213 : BitVec 32 := Dev.word d0
  let c1_i32_81 : BitVec 32 := 1#32
  let v214 : BitVec 32 := Scalar.divsi v213 c1_i32_81
  let c4_i32_80 : BitVec 32 := 4#32
  let v215 : BitVec 32 := Scalar.remsi v214 c4_i32_80
  let c1_i32_82 : BitVec 32 := 1#32
  let v216 : BitVec 32 := Scalar.subi v215 c1_i32_82
  let c4_i32_83 : BitVec 32 := 4#32
  let c0_i32_84 : BitVec 32 := 0#32
  let v217 : BitVec 1 := Scalar.cmpi .eq c4_i32_83 c0_i32_84
  let c1_i32_85 : BitVec 32 := 1#32
  let v218 : BitVec 32 := Scalar.select v217 c1_i32_85 c4_i32_83
  let v219 : BitVec 32 := Scalar.remsi v216 v218
  let c0_i32_87 : BitVec 32 := 0#32
  let v221 : BitVec 1 := Scalar.cmpi .slt v219 c0_i32_87
  let c0_i32_88 : BitVec 32 := 0#32
  let v222 : BitVec 1 := Scalar.cmpi .slt v218 c0_i32_88
  let v223 : BitVec 1 := Scalar.xori v221 v222
  let c0_i32_86 : BitVec 32 := 0#32
  let v220 : BitVec 1 := Scalar.cmpi .ne v219 c0_i32_86
  let v224 : BitVec 1 := Scalar.andi v223 v220
  let v225 : BitVec 32 := Scalar.addi v219 v218
  let v226 : BitVec 32 := Scalar.select v224 v225 v219
  let c1_i32_242 : BitVec 32 := 1#32
  let v410 : BitVec 32 := Scalar.muli v226 c1_i32_242
  let v411 : BitVec 32 := Scalar.addi c0_i32_243 v410
  v411.toNat
def k0_dev7 (d0 : Dev nD) : Nat :=
  let c0_i32_337 : BitVec 32 := 0#32
  let v213 : BitVec 32 := Dev.word d0
  let c1_i32_81 : BitVec 32 := 1#32
  let v214 : BitVec 32 := Scalar.divsi v213 c1_i32_81
  let c4_i32_80 : BitVec 32 := 4#32
  let v215 : BitVec 32 := Scalar.remsi v214 c4_i32_80
  let c1_i32_89 : BitVec 32 := 1#32
  let v227 : BitVec 32 := Scalar.addi v215 c1_i32_89
  let c4_i32_90 : BitVec 32 := 4#32
  let c0_i32_91 : BitVec 32 := 0#32
  let v228 : BitVec 1 := Scalar.cmpi .eq c4_i32_90 c0_i32_91
  let c1_i32_92 : BitVec 32 := 1#32
  let v229 : BitVec 32 := Scalar.select v228 c1_i32_92 c4_i32_90
  let v230 : BitVec 32 := Scalar.remsi v227 v229
  let c0_i32_94 : BitVec 32 := 0#32
  let v232 : BitVec 1 := Scalar.cmpi .slt v230 c0_i32_94
  let c0_i32_95 : BitVec 32 := 0#32
  let v233 : BitVec 1 := Scalar.cmpi .slt v229 c0_i32_95
  let v234 : BitVec 1 := Scalar.xori v232 v233
  let c0_i32_93 : BitVec 32 := 0#32
  let v231 : BitVec 1 := Scalar.cmpi .ne v230 c0_i32_93
  let v235 : BitVec 1 := Scalar.andi v234 v231
  let v236 : BitVec 32 := Scalar.addi v230 v229
  let v237 : BitVec 32 := Scalar.select v235 v236 v230
  let c1_i32_336 : BitVec 32 := 1#32
  let v522 : BitVec 32 := Scalar.muli v237 c1_i32_336
  let v523 : BitVec 32 := Scalar.addi c0_i32_337 v522
  v523.toNat
def k0_dev8 (d0 : Dev nD) : Nat :=
  let c0_i32_346 : BitVec 32 := 0#32
  let v213 : BitVec 32 := Dev.word d0
  let c1_i32_81 : BitVec 32 := 1#32
  let v214 : BitVec 32 := Scalar.divsi v213 c1_i32_81
  let c4_i32_80 : BitVec 32 := 4#32
  let v215 : BitVec 32 := Scalar.remsi v214 c4_i32_80
  let c1_i32_82 : BitVec 32 := 1#32
  let v216 : BitVec 32 := Scalar.subi v215 c1_i32_82
  let c4_i32_83 : BitVec 32 := 4#32
  let c0_i32_84 : BitVec 32 := 0#32
  let v217 : BitVec 1 := Scalar.cmpi .eq c4_i32_83 c0_i32_84
  let c1_i32_85 : BitVec 32 := 1#32
  let v218 : BitVec 32 := Scalar.select v217 c1_i32_85 c4_i32_83
  let v219 : BitVec 32 := Scalar.remsi v216 v218
  let c0_i32_87 : BitVec 32 := 0#32
  let v221 : BitVec 1 := Scalar.cmpi .slt v219 c0_i32_87
  let c0_i32_88 : BitVec 32 := 0#32
  let v222 : BitVec 1 := Scalar.cmpi .slt v218 c0_i32_88
  let v223 : BitVec 1 := Scalar.xori v221 v222
  let c0_i32_86 : BitVec 32 := 0#32
  let v220 : BitVec 1 := Scalar.cmpi .ne v219 c0_i32_86
  let v224 : BitVec 1 := Scalar.andi v223 v220
  let v225 : BitVec 32 := Scalar.addi v219 v218
  let v226 : BitVec 32 := Scalar.select v224 v225 v219
  let c1_i32_345 : BitVec 32 := 1#32
  let v530 : BitVec 32 := Scalar.muli v226 c1_i32_345
  let v531 : BitVec 32 := Scalar.addi c0_i32_346 v530
  v531.toNat
def k0_off20 (d0 : Dev nD) : Fin 2 → Nat :=
  let v213 : BitVec 32 := Dev.word d0
  let c1_i32_81 : BitVec 32 := 1#32
  let v214 : BitVec 32 := Scalar.divsi v213 c1_i32_81
  let c4_i32_80 : BitVec 32 := 4#32
  let v215 : BitVec 32 := Scalar.remsi v214 c4_i32_80
  let c1_i32_411 : BitVec 32 := 1#32
  let v603 : BitVec 32 := Scalar.addi v215 c1_i32_411
  let c4_i32_412 : BitVec 32 := 4#32
  let c0_i32_413 : BitVec 32 := 0#32
  let v604 : BitVec 1 := Scalar.cmpi .eq c4_i32_412 c0_i32_413
  let c1_i32_414 : BitVec 32 := 1#32
  let v605 : BitVec 32 := Scalar.select v604 c1_i32_414 c4_i32_412
  let v606 : BitVec 32 := Scalar.remsi v603 v605
  let c0_i32_416 : BitVec 32 := 0#32
  let v608 : BitVec 1 := Scalar.cmpi .slt v606 c0_i32_416
  let c0_i32_417 : BitVec 32 := 0#32
  let v609 : BitVec 1 := Scalar.cmpi .slt v605 c0_i32_417
  let v610 : BitVec 1 := Scalar.xori v608 v609
  let c0_i32_415 : BitVec 32 := 0#32
  let v607 : BitVec 1 := Scalar.cmpi .ne v606 c0_i32_415
  let v611 : BitVec 1 := Scalar.andi v610 v607
  let v612 : BitVec 32 := Scalar.addi v606 v605
  let v613 : BitVec 32 := Scalar.select v611 v612 v606
  let c256_i32_418 : BitVec 32 := 256#32
  let v614 : BitVec 32 := Scalar.muli v613 c256_i32_418
  let v615 : Index := Scalar.indexCast v614
  let c0_419 : Index := 0#32
  ![v615.toNat, 0]
def k0_off21 (d0 : Dev nD) : Fin 2 → Nat :=
  let c1024_i32_430 : BitVec 32 := 1024#32
  let v213 : BitVec 32 := Dev.word d0
  let c1_i32_81 : BitVec 32 := 1#32
  let v214 : BitVec 32 := Scalar.divsi v213 c1_i32_81
  let c4_i32_80 : BitVec 32 := 4#32
  let v215 : BitVec 32 := Scalar.remsi v214 c4_i32_80
  let c1_i32_422 : BitVec 32 := 1#32
  let v622 : BitVec 32 := Scalar.subi v215 c1_i32_422
  let c4_i32_423 : BitVec 32 := 4#32
  let c0_i32_424 : BitVec 32 := 0#32
  let v623 : BitVec 1 := Scalar.cmpi .eq c4_i32_423 c0_i32_424
  let c1_i32_425 : BitVec 32 := 1#32
  let v624 : BitVec 32 := Scalar.select v623 c1_i32_425 c4_i32_423
  let v625 : BitVec 32 := Scalar.remsi v622 v624
  let c0_i32_427 : BitVec 32 := 0#32
  let v627 : BitVec 1 := Scalar.cmpi .slt v625 c0_i32_427
  let c0_i32_428 : BitVec 32 := 0#32
  let v628 : BitVec 1 := Scalar.cmpi .slt v624 c0_i32_428
  let v629 : BitVec 1 := Scalar.xori v627 v628
  let c0_i32_426 : BitVec 32 := 0#32
  let v626 : BitVec 1 := Scalar.cmpi .ne v625 c0_i32_426
  let v630 : BitVec 1 := Scalar.andi v629 v626
  let v631 : BitVec 32 := Scalar.addi v625 v624
  let v632 : BitVec 32 := Scalar.select v630 v631 v625
  let c256_i32_429 : BitVec 32 := 256#32
  let v633 : BitVec 32 := Scalar.muli v632 c256_i32_429
  let v634 : BitVec 32 := Scalar.addi c1024_i32_430 v633
  let v635 : Index := Scalar.indexCast v634
  let c0_431 : Index := 0#32
  ![v635.toNat, 0]
def k0_dev9 (d0 : Dev nD) : Nat :=
  let c0_i32_439 : BitVec 32 := 0#32
  let v213 : BitVec 32 := Dev.word d0
  let c1_i32_81 : BitVec 32 := 1#32
  let v214 : BitVec 32 := Scalar.divsi v213 c1_i32_81
  let c4_i32_80 : BitVec 32 := 4#32
  let v215 : BitVec 32 := Scalar.remsi v214 c4_i32_80
  let c1_i32_89 : BitVec 32 := 1#32
  let v227 : BitVec 32 := Scalar.addi v215 c1_i32_89
  let c4_i32_90 : BitVec 32 := 4#32
  let c0_i32_91 : BitVec 32 := 0#32
  let v228 : BitVec 1 := Scalar.cmpi .eq c4_i32_90 c0_i32_91
  let c1_i32_92 : BitVec 32 := 1#32
  let v229 : BitVec 32 := Scalar.select v228 c1_i32_92 c4_i32_90
  let v230 : BitVec 32 := Scalar.remsi v227 v229
  let c0_i32_94 : BitVec 32 := 0#32
  let v232 : BitVec 1 := Scalar.cmpi .slt v230 c0_i32_94
  let c0_i32_95 : BitVec 32 := 0#32
  let v233 : BitVec 1 := Scalar.cmpi .slt v229 c0_i32_95
  let v234 : BitVec 1 := Scalar.xori v232 v233
  let c0_i32_93 : BitVec 32 := 0#32
  let v231 : BitVec 1 := Scalar.cmpi .ne v230 c0_i32_93
  let v235 : BitVec 1 := Scalar.andi v234 v231
  let v236 : BitVec 32 := Scalar.addi v230 v229
  let v237 : BitVec 32 := Scalar.select v235 v236 v230
  let c1_i32_438 : BitVec 32 := 1#32
  let v642 : BitVec 32 := Scalar.muli v237 c1_i32_438
  let v643 : BitVec 32 := Scalar.addi c0_i32_439 v642
  v643.toNat
def k0_dev10 (d0 : Dev nD) : Nat :=
  let c0_i32_448 : BitVec 32 := 0#32
  let v213 : BitVec 32 := Dev.word d0
  let c1_i32_81 : BitVec 32 := 1#32
  let v214 : BitVec 32 := Scalar.divsi v213 c1_i32_81
  let c4_i32_80 : BitVec 32 := 4#32
  let v215 : BitVec 32 := Scalar.remsi v214 c4_i32_80
  let c1_i32_82 : BitVec 32 := 1#32
  let v216 : BitVec 32 := Scalar.subi v215 c1_i32_82
  let c4_i32_83 : BitVec 32 := 4#32
  let c0_i32_84 : BitVec 32 := 0#32
  let v217 : BitVec 1 := Scalar.cmpi .eq c4_i32_83 c0_i32_84
  let c1_i32_85 : BitVec 32 := 1#32
  let v218 : BitVec 32 := Scalar.select v217 c1_i32_85 c4_i32_83
  let v219 : BitVec 32 := Scalar.remsi v216 v218
  let c0_i32_87 : BitVec 32 := 0#32
  let v221 : BitVec 1 := Scalar.cmpi .slt v219 c0_i32_87
  let c0_i32_88 : BitVec 32 := 0#32
  let v222 : BitVec 1 := Scalar.cmpi .slt v218 c0_i32_88
  let v223 : BitVec 1 := Scalar.xori v221 v222
  let c0_i32_86 : BitVec 32 := 0#32
  let v220 : BitVec 1 := Scalar.cmpi .ne v219 c0_i32_86
  let v224 : BitVec 1 := Scalar.andi v223 v220
  let v225 : BitVec 32 := Scalar.addi v219 v218
  let v226 : BitVec 32 := Scalar.select v224 v225 v219
  let c1_i32_447 : BitVec 32 := 1#32
  let v650 : BitVec 32 := Scalar.muli v226 c1_i32_447
  let v651 : BitVec 32 := Scalar.addi c0_i32_448 v650
  v651.toNat
def k0_dev11 (d0 : Dev nD) : Nat :=
  let c0_i32_516 : BitVec 32 := 0#32
  let v213 : BitVec 32 := Dev.word d0
  let c1_i32_81 : BitVec 32 := 1#32
  let v214 : BitVec 32 := Scalar.divsi v213 c1_i32_81
  let c4_i32_80 : BitVec 32 := 4#32
  let v215 : BitVec 32 := Scalar.remsi v214 c4_i32_80
  let c1_i32_89 : BitVec 32 := 1#32
  let v227 : BitVec 32 := Scalar.addi v215 c1_i32_89
  let c4_i32_90 : BitVec 32 := 4#32
  let c0_i32_91 : BitVec 32 := 0#32
  let v228 : BitVec 1 := Scalar.cmpi .eq c4_i32_90 c0_i32_91
  let c1_i32_92 : BitVec 32 := 1#32
  let v229 : BitVec 32 := Scalar.select v228 c1_i32_92 c4_i32_90
  let v230 : BitVec 32 := Scalar.remsi v227 v229
  let c0_i32_94 : BitVec 32 := 0#32
  let v232 : BitVec 1 := Scalar.cmpi .slt v230 c0_i32_94
  let c0_i32_95 : BitVec 32 := 0#32
  let v233 : BitVec 1 := Scalar.cmpi .slt v229 c0_i32_95
  let v234 : BitVec 1 := Scalar.xori v232 v233
  let c0_i32_93 : BitVec 32 := 0#32
  let v231 : BitVec 1 := Scalar.cmpi .ne v230 c0_i32_93
  let v235 : BitVec 1 := Scalar.andi v234 v231
  let v236 : BitVec 32 := Scalar.addi v230 v229
  let v237 : BitVec 32 := Scalar.select v235 v236 v230
  let c1_i32_515 : BitVec 32 := 1#32
  let v713 : BitVec 32 := Scalar.muli v237 c1_i32_515
  let v714 : BitVec 32 := Scalar.addi c0_i32_516 v713
  v714.toNat
def k0_dev12 (d0 : Dev nD) : Nat :=
  let c0_i32_528 : BitVec 32 := 0#32
  let v213 : BitVec 32 := Dev.word d0
  let c1_i32_81 : BitVec 32 := 1#32
  let v214 : BitVec 32 := Scalar.divsi v213 c1_i32_81
  let c4_i32_80 : BitVec 32 := 4#32
  let v215 : BitVec 32 := Scalar.remsi v214 c4_i32_80
  let c1_i32_82 : BitVec 32 := 1#32
  let v216 : BitVec 32 := Scalar.subi v215 c1_i32_82
  let c4_i32_83 : BitVec 32 := 4#32
  let c0_i32_84 : BitVec 32 := 0#32
  let v217 : BitVec 1 := Scalar.cmpi .eq c4_i32_83 c0_i32_84
  let c1_i32_85 : BitVec 32 := 1#32
  let v218 : BitVec 32 := Scalar.select v217 c1_i32_85 c4_i32_83
  let v219 : BitVec 32 := Scalar.remsi v216 v218
  let c0_i32_87 : BitVec 32 := 0#32
  let v221 : BitVec 1 := Scalar.cmpi .slt v219 c0_i32_87
  let c0_i32_88 : BitVec 32 := 0#32
  let v222 : BitVec 1 := Scalar.cmpi .slt v218 c0_i32_88
  let v223 : BitVec 1 := Scalar.xori v221 v222
  let c0_i32_86 : BitVec 32 := 0#32
  let v220 : BitVec 1 := Scalar.cmpi .ne v219 c0_i32_86
  let v224 : BitVec 1 := Scalar.andi v223 v220
  let v225 : BitVec 32 := Scalar.addi v219 v218
  let v226 : BitVec 32 := Scalar.select v224 v225 v219
  let c1_i32_527 : BitVec 32 := 1#32
  let v723 : BitVec 32 := Scalar.muli v226 c1_i32_527
  let v724 : BitVec 32 := Scalar.addi c0_i32_528 v723
  v724.toNat
def k0_dev13 (d0 : Dev nD) : Nat :=
  let c0_i32_609 : BitVec 32 := 0#32
  let v213 : BitVec 32 := Dev.word d0
  let c1_i32_81 : BitVec 32 := 1#32
  let v214 : BitVec 32 := Scalar.divsi v213 c1_i32_81
  let c4_i32_80 : BitVec 32 := 4#32
  let v215 : BitVec 32 := Scalar.remsi v214 c4_i32_80
  let c1_i32_89 : BitVec 32 := 1#32
  let v227 : BitVec 32 := Scalar.addi v215 c1_i32_89
  let c4_i32_90 : BitVec 32 := 4#32
  let c0_i32_91 : BitVec 32 := 0#32
  let v228 : BitVec 1 := Scalar.cmpi .eq c4_i32_90 c0_i32_91
  let c1_i32_92 : BitVec 32 := 1#32
  let v229 : BitVec 32 := Scalar.select v228 c1_i32_92 c4_i32_90
  let v230 : BitVec 32 := Scalar.remsi v227 v229
  let c0_i32_94 : BitVec 32 := 0#32
  let v232 : BitVec 1 := Scalar.cmpi .slt v230 c0_i32_94
  let c0_i32_95 : BitVec 32 := 0#32
  let v233 : BitVec 1 := Scalar.cmpi .slt v229 c0_i32_95
  let v234 : BitVec 1 := Scalar.xori v232 v233
  let c0_i32_93 : BitVec 32 := 0#32
  let v231 : BitVec 1 := Scalar.cmpi .ne v230 c0_i32_93
  let v235 : BitVec 1 := Scalar.andi v234 v231
  let v236 : BitVec 32 := Scalar.addi v230 v229
  let v237 : BitVec 32 := Scalar.select v235 v236 v230
  let c1_i32_608 : BitVec 32 := 1#32
  let v796 : BitVec 32 := Scalar.muli v237 c1_i32_608
  let v797 : BitVec 32 := Scalar.addi c0_i32_609 v796
  v797.toNat
def k0_dev14 (d0 : Dev nD) : Nat :=
  let c0_i32_621 : BitVec 32 := 0#32
  let v213 : BitVec 32 := Dev.word d0
  let c1_i32_81 : BitVec 32 := 1#32
  let v214 : BitVec 32 := Scalar.divsi v213 c1_i32_81
  let c4_i32_80 : BitVec 32 := 4#32
  let v215 : BitVec 32 := Scalar.remsi v214 c4_i32_80
  let c1_i32_82 : BitVec 32 := 1#32
  let v216 : BitVec 32 := Scalar.subi v215 c1_i32_82
  let c4_i32_83 : BitVec 32 := 4#32
  let c0_i32_84 : BitVec 32 := 0#32
  let v217 : BitVec 1 := Scalar.cmpi .eq c4_i32_83 c0_i32_84
  let c1_i32_85 : BitVec 32 := 1#32
  let v218 : BitVec 32 := Scalar.select v217 c1_i32_85 c4_i32_83
  let v219 : BitVec 32 := Scalar.remsi v216 v218
  let c0_i32_87 : BitVec 32 := 0#32
  let v221 : BitVec 1 := Scalar.cmpi .slt v219 c0_i32_87
  let c0_i32_88 : BitVec 32 := 0#32
  let v222 : BitVec 1 := Scalar.cmpi .slt v218 c0_i32_88
  let v223 : BitVec 1 := Scalar.xori v221 v222
  let c0_i32_86 : BitVec 32 := 0#32
  let v220 : BitVec 1 := Scalar.cmpi .ne v219 c0_i32_86
  let v224 : BitVec 1 := Scalar.andi v223 v220
  let v225 : BitVec 32 := Scalar.addi v219 v218
  let v226 : BitVec 32 := Scalar.select v224 v225 v219
  let c1_i32_620 : BitVec 32 := 1#32
  let v806 : BitVec 32 := Scalar.muli v226 c1_i32_620
  let v807 : BitVec 32 := Scalar.addi c0_i32_621 v806
  v807.toNat
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S1x2048x1024 : Shape := ⟨3, ![1, 2048, 1024]⟩
abbrev S1024x4096 : Shape := ⟨2, ![1024, 4096]⟩
abbrev S1x2048x32x128 : Shape := ⟨4, ![1, 2048, 32, 128]⟩
abbrev S4096x1024 : Shape := ⟨2, ![4096, 1024]⟩
abbrev S1x2048x4096 : Shape := ⟨3, ![1, 2048, 4096]⟩
abbrev S2048 : Shape := ⟨1, ![2048]⟩
abbrev S_ : Shape := ⟨0, ![]⟩
abbrev S2048x1 : Shape := ⟨2, ![2048, 1]⟩
abbrev S1x2048 : Shape := ⟨2, ![1, 2048]⟩
abbrev S2048x2048 : Shape := ⟨2, ![2048, 2048]⟩
abbrev S1x32x2048x2048 : Shape := ⟨4, ![1, 32, 2048, 2048]⟩
abbrev S1x1x2048x2048 : Shape := ⟨4, ![1, 1, 2048, 2048]⟩
abbrev S1x32x2048 : Shape := ⟨3, ![1, 32, 2048]⟩
abbrev S1x32x2048x1 : Shape := ⟨4, ![1, 32, 2048, 1]⟩
abbrev S1x1x2048x1 : Shape := ⟨4, ![1, 1, 2048, 1]⟩
abbrev S1x32x128x2048 : Shape := ⟨4, ![1, 32, 128, 2048]⟩
abbrev S2048x1024 : Shape := ⟨2, ![2048, 1024]⟩

abbrev nBuf : Space → Nat
  | .hbm => 90
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1024x4096, .f32⟩
  | .hbm, ⟨2, _⟩ => ⟨S1x2048x32x128, .f32⟩
  | .hbm, ⟨3, _⟩ => ⟨S1x2048x32x128, .f32⟩
  | .hbm, ⟨4, _⟩ => ⟨S4096x1024, .f32⟩
  | .hbm, ⟨5, _⟩ => ⟨S1x2048x4096, .f32⟩
  | .hbm, ⟨6, _⟩ => ⟨S1x2048x32x128, .f32⟩
  | .hbm, ⟨7, _⟩ => ⟨S2048, .i32⟩
  | .hbm, ⟨8, _⟩ => ⟨S_, .i32⟩
  | .hbm, ⟨9, _⟩ => ⟨S_, .i32⟩
  | .hbm, ⟨10, _⟩ => ⟨S2048, .i32⟩
  | .hbm, ⟨11, _⟩ => ⟨S2048, .i32⟩
  | .hbm, ⟨12, _⟩ => ⟨S2048, .i32⟩
  | .hbm, ⟨13, _⟩ => ⟨S_, .i32⟩
  | .hbm, ⟨14, _⟩ => ⟨S2048, .i32⟩
  | .hbm, ⟨15, _⟩ => ⟨S2048, .i1⟩
  | .hbm, ⟨16, _⟩ => ⟨S2048, .i32⟩
  | .hbm, ⟨17, _⟩ => ⟨S2048, .i32⟩
  | .hbm, ⟨18, _⟩ => ⟨S_, .i32⟩
  | .hbm, ⟨19, _⟩ => ⟨S2048, .i32⟩
  | .hbm, ⟨20, _⟩ => ⟨S2048, .i1⟩
  | .hbm, ⟨21, _⟩ => ⟨S2048, .i1⟩
  | .hbm, ⟨22, _⟩ => ⟨S_, .i32⟩
  | .hbm, ⟨23, _⟩ => ⟨S2048, .i32⟩
  | .hbm, ⟨24, _⟩ => ⟨S2048, .i32⟩
  | .hbm, ⟨25, _⟩ => ⟨S2048, .i32⟩
  | .hbm, ⟨26, _⟩ => ⟨S2048x1, .i32⟩
  | .hbm, ⟨27, _⟩ => ⟨S2048, .i32⟩
  | .hbm, ⟨28, _⟩ => ⟨S_, .i32⟩
  | .hbm, ⟨29, _⟩ => ⟨S_, .i32⟩
  | .hbm, ⟨30, _⟩ => ⟨S2048, .i32⟩
  | .hbm, ⟨31, _⟩ => ⟨S2048, .i32⟩
  | .hbm, ⟨32, _⟩ => ⟨S2048, .i32⟩
  | .hbm, ⟨33, _⟩ => ⟨S_, .i32⟩
  | .hbm, ⟨34, _⟩ => ⟨S2048, .i32⟩
  | .hbm, ⟨35, _⟩ => ⟨S2048, .i1⟩
  | .hbm, ⟨36, _⟩ => ⟨S2048, .i32⟩
  | .hbm, ⟨37, _⟩ => ⟨S2048, .i32⟩
  | .hbm, ⟨38, _⟩ => ⟨S_, .i32⟩
  | .hbm, ⟨39, _⟩ => ⟨S2048, .i32⟩
  | .hbm, ⟨40, _⟩ => ⟨S2048, .i1⟩
  | .hbm, ⟨41, _⟩ => ⟨S2048, .i1⟩
  | .hbm, ⟨42, _⟩ => ⟨S_, .i32⟩
  | .hbm, ⟨43, _⟩ => ⟨S2048, .i32⟩
  | .hbm, ⟨44, _⟩ => ⟨S2048, .i32⟩
  | .hbm, ⟨45, _⟩ => ⟨S2048, .i32⟩
  | .hbm, ⟨46, _⟩ => ⟨S1x2048, .i32⟩
  | .hbm, ⟨47, _⟩ => ⟨S2048x2048, .i32⟩
  | .hbm, ⟨48, _⟩ => ⟨S2048x2048, .i32⟩
  | .hbm, ⟨49, _⟩ => ⟨S2048x2048, .i1⟩
  | .hbm, ⟨50, _⟩ => ⟨S1x32x2048x2048, .f32⟩
  | .hbm, ⟨51, _⟩ => ⟨S_, .f32⟩
  | .hbm, ⟨52, _⟩ => ⟨S1x32x2048x2048, .f32⟩
  | .hbm, ⟨53, _⟩ => ⟨S1x32x2048x2048, .f32⟩
  | .hbm, ⟨54, _⟩ => ⟨S1x1x2048x2048, .i1⟩
  | .hbm, ⟨55, _⟩ => ⟨S_, .f32⟩
  | .hbm, ⟨56, _⟩ => ⟨S_, .f32⟩
  | .hbm, ⟨57, _⟩ => ⟨S1x32x2048x2048, .i1⟩
  | .hbm, ⟨58, _⟩ => ⟨S1x32x2048x2048, .f32⟩
  | .hbm, ⟨59, _⟩ => ⟨S1x32x2048x2048, .f32⟩
  | .hbm, ⟨60, _⟩ => ⟨S_, .f32⟩
  | .hbm, ⟨61, _⟩ => ⟨S1x32x2048, .f32⟩
  | .hbm, ⟨62, _⟩ => ⟨S1x32x2048x1, .f32⟩
  | .hbm, ⟨63, _⟩ => ⟨S1x32x2048x2048, .f32⟩
  | .hbm, ⟨64, _⟩ => ⟨S1x32x2048x2048, .f32⟩
  | .hbm, ⟨65, _⟩ => ⟨S1x32x2048x2048, .f32⟩
  | .hbm, ⟨66, _⟩ => ⟨S_, .i1⟩
  | .hbm, ⟨67, _⟩ => ⟨S2048, .i1⟩
  | .hbm, ⟨68, _⟩ => ⟨S1x1x2048x1, .i1⟩
  | .hbm, ⟨69, _⟩ => ⟨S_, .f32⟩
  | .hbm, ⟨70, _⟩ => ⟨S1x32x2048, .f32⟩
  | .hbm, ⟨71, _⟩ => ⟨S1x32x2048x1, .f32⟩
  | .hbm, ⟨72, _⟩ => ⟨S_, .f32⟩
  | .hbm, ⟨73, _⟩ => ⟨S_, .f32⟩
  | .hbm, ⟨74, _⟩ => ⟨S1x32x2048x1, .i1⟩
  | .hbm, ⟨75, _⟩ => ⟨S1x32x2048x1, .f32⟩
  | .hbm, ⟨76, _⟩ => ⟨S1x32x2048x1, .f32⟩
  | .hbm, ⟨77, _⟩ => ⟨S1x32x2048x2048, .f32⟩
  | .hbm, ⟨78, _⟩ => ⟨S1x32x2048x2048, .f32⟩
  | .hbm, ⟨79, _⟩ => ⟨S1x1x2048x1, .i1⟩
  | .hbm, ⟨80, _⟩ => ⟨S_, .f32⟩
  | .hbm, ⟨81, _⟩ => ⟨S_, .f32⟩
  | .hbm, ⟨82, _⟩ => ⟨S1x32x2048x2048, .i1⟩
  | .hbm, ⟨83, _⟩ => ⟨S1x32x2048x2048, .f32⟩
  | .hbm, ⟨84, _⟩ => ⟨S1x32x2048x2048, .f32⟩
  | .hbm, ⟨85, _⟩ => ⟨S1x32x128x2048, .f32⟩
  | .hbm, ⟨86, _⟩ => ⟨S1x2048x32x128, .f32⟩
  | .hbm, ⟨87, _⟩ => ⟨S1x2048x4096, .f32⟩
  | .hbm, ⟨88, _⟩ => ⟨S1x2048x1024, .f32⟩
  | .hbm, ⟨89, _⟩ => ⟨S2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_cst : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_cst_1 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v15 : Ref sig .tc := ⟨.hbm, 59, rfl⟩
abbrev main_cst_2 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_c_3 : Ref sig .tc := ⟨.hbm, 66, rfl⟩
abbrev main_v21 : Ref sig .tc := ⟨.hbm, 67, rfl⟩
abbrev main_v22 : Ref sig .tc := ⟨.hbm, 68, rfl⟩
abbrev main_cst_4 : Ref sig .tc := ⟨.hbm, 69, rfl⟩
abbrev main_v23 : Ref sig .tc := ⟨.hbm, 70, rfl⟩
abbrev main_v24 : Ref sig .tc := ⟨.hbm, 71, rfl⟩
abbrev main_cst_5 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_6 : Ref sig .tc := ⟨.hbm, 80, rfl⟩
abbrev main_call4_v0 : Ref sig .tc := ⟨.hbm, 81, rfl⟩
abbrev main_call4_v1 : Ref sig .tc := ⟨.hbm, 82, rfl⟩
abbrev main_call4_v2 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩
abbrev main_v34 : Ref sig .tc := ⟨.hbm, 89, rfl⟩

abbrev nD : Nat := 1
abbrev τ : Topo := Topo.v7x

variable {F : FTy → Type} [FloatOps F]
-- ==== Proof.KernelIdealProg.lean ====
/-
  The kernel's body as a program over named pieces.

  The printed body is one long sequence of memory operations. Here it is written again over pieces that take the hop number,
  the direction and the head's buffer as parameters (`xchP`, `rsP`, `agP`, `kvStart`, `kvWait`, `tilesP`), and proved equal to
  the printed one (`body_eq`), so that each piece is reasoned about once.
-/
module

public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.KernelIdeal.Own

open Cert.KernelIdeal Cert.KernelIdeal.Gen
open Idealize.ShloMosaic Idealize.SL.Sem

variable {F : FTy → Type} [FloatOps F]

/-! ## The buffers and semaphores the pieces use -/

abbrev outM : Memref sig .tc .vmem S2048x1024 .f32 := Memref.whole cc0_stg3_0
abbrev woM : Memref sig .tc .vmem S1024x1024 .f32 := Memref.whole cc0_stg2_0
abbrev wqM : Memref sig .tc .vmem S1024x1024 .f32 := Memref.whole cc0_stg1_0
abbrev xM : Memref sig .tc .vmem S1x2048x1024 .f32 := Memref.whole cc0_stg0_0
abbrev qM : Memref sig .tc .vmem S2048x1024 .bf16 := Memref.whole cc0_scratch0
abbrev ctxM : Memref sig .tc .vmem S2048x1024 .bf16 := Memref.whole cc0_scratch1

/-- The communication buffer of a direction: `false` the one filled from the left neighbour, `true` from the right one. -/
abbrev commM (l : Bool) : Memref sig .tc .vmem S6x256x1024 .bf16 :=
  match l with | false => Memref.whole cc0_scratch5 | true => Memref.whole cc0_scratch6
/-- The staging buffer a direction's first four transfers are sent from. -/
abbrev stageM (l : Bool) : Memref sig .tc .vmem S256x1024 .bf16 :=
  match l with | false => Memref.whole cc0_scratch7 | true => Memref.whole cc0_scratch8

theorem commM_whole (l : Bool) : (commM l).IsWhole := by cases l <;> exact Memref.isWhole_whole _
theorem stageM_whole (l : Bool) : (stageM l).IsWhole := by cases l <;> exact Memref.isWhole_whole _

theorem slot_inb (t : Fin 6) : ∀ a, (![t.val, 0, 0] : Fin 3 → Nat) a + S1x256x1024.size a ≤ S6x256x1024.size a := by
  revert t; decide
/-- Slot `t` of a communication buffer as a rectangle of it. -/
abbrev slotRect (t : Fin 6) : Rect S6x256x1024 := Rect.unit (s := S6x256x1024) ![t.val, 0, 0] S1x256x1024.size (slot_inb t)
/-- Slot `t` of the direction's communication buffer. -/
abbrev slotM (l : Bool) (t : Fin 6) : Memref sig .tc .vmem S256x1024 .bf16 :=
  ((commM l).slice (slotRect t) (fun _ => rfl)).squeeze S256x1024 squeezes_S1x256x1024_S256x1024
theorem slot_words (t : Fin 6) : (slotRect t).WholeWords (EltTy.packing .bf16) := by
  fin_cases t
  · exact wordsbf16_S6x256x1024_S1x256x1024_0_0_0
  · exact wordsbf16_S6x256x1024_S1x256x1024_1_0_0
  · exact wordsbf16_S6x256x1024_S1x256x1024_2_0_0
  · exact wordsbf16_S6x256x1024_S1x256x1024_3_0_0
  · exact wordsbf16_S6x256x1024_S1x256x1024_4_0_0
  · exact wordsbf16_S6x256x1024_S1x256x1024_5_0_0
theorem slot_exact (l : Bool) (t : Fin 6) : (slotM l t).view.WordExact :=
  (((commM_whole l).wordExact_slice rfl _ (slot_words t)).reshape _ _)

theorem sem_inb (l : Bool) (t : Fin 6) : ∀ a, (![if l then 1 else 0, t.val] : Fin 2 → Nat) a + S1x1.size a ≤ S2x6.size a := by
  revert l t; decide
/-- The send semaphore of a direction's hop `t`, -/
abbrev sendS (l : Bool) (t : Fin 6) : DmaSem sig :=
  (((cc0_scratch9 : DmaSems sig S2x6).slice (Rect.unit (s := S2x6) ![if l then 1 else 0, t.val] S1x1.size (sem_inb l t))).squeeze S_ squeezes_S1x1_S_).sem
/-- and its receive semaphore. -/
abbrev recvS (l : Bool) (t : Fin 6) : DmaSem sig :=
  (((cc0_scratch10 : DmaSems sig S2x6).slice (Rect.unit (s := S2x6) ![if l then 1 else 0, t.val] S1x1.size (sem_inb l t))).squeeze S_ squeezes_S1x1_S_).sem
/-- The runtime's barrier semaphore. -/
abbrev barS : Sem sig := (SemArray.scalar (sig.barrier 0 rfl) : Sems sig S_).sem

/-- Both directions' transfers of one hop: started, then waited for. -/
def xchP (sR sL : Memref sig .tc .vmem S256x1024 .bf16) (hR : sR.view.WordExact) (hL : sL.view.WordExact) (t : Fin 6) (r l : Dev nD) :
    Prog (TpuEff nD τ sig (Elt F) Λ₀ .tc) PUnit := do
  Prog.lift (.enqueueDma sR (.remote (Dev.tc r) (slotM false t) (.dma (sendS false t))) (.dma (recvS false t)) hR (slot_exact false t) ⟨⟨rfl, Or.inl rfl⟩, trivial⟩)
  Prog.lift (.enqueueDma sL (.remote (Dev.tc l) (slotM true t) (.dma (sendS true t))) (.dma (recvS true t)) hL (slot_exact true t) ⟨⟨rfl, Or.inl rfl⟩, trivial⟩)
  Prog.lift (.waitDma2 (sendS false t) (slotM false t) sR (slot_exact false t) hR)
  Prog.lift (.waitDma2 (recvS false t) sR (slotM false t) hR (slot_exact false t))
  Prog.lift (.waitDma2 (sendS true t) (slotM true t) sL (slot_exact true t) hL)
  Prog.lift (.waitDma2 (recvS true t) sL (slotM true t) hL (slot_exact true t))

/-! ## The exchange -/

/-- A block of 256 rows of the result buffer, at offset `o`. -/
abbrev rowsR (o : Fin 2 → Nat) (h : ∀ a, o a + S256x1024.size a ≤ S2048x1024.size a) : Rect S2048x1024 :=
  Rect.unit (s := S2048x1024) o S256x1024.size h
/-- The whole of a staging buffer. -/
abbrev stgR : Rect S256x1024 := Rect.unit (s := S256x1024) ![0, 0] S256x1024.size inb_S256x1024_S256x1024_0_0

/-- A row block of the result buffer rounded into a direction's staging buffer. -/
def stageP (l : Bool) (o : Fin 2 → Nat) (h : ∀ a, o a + S256x1024.size a ≤ S2048x1024.size a) :
    Prog (TpuEff nD τ sig (Elt F) Λ₀ .tc) PUnit := do
  let v : Vec F S256x1024 .f32 ← Prog.lift (.load outM (rowsR o h).toLoadRect (View.loadsAt_vmem h_S256x1024))
  let w : Vec F S256x1024 .bf16 ← Prog.lift (.load (stageM l) stgR.toLoadRect (View.loadsAt_vmem h_S256x1024))
  Prog.lift (.store (stageM l) stgR (k0_pay2 v) Finset.univ (View.stores_vmem h_S256x1024 ((stageM_whole l).storeExact_slice rfl _ packedbf16_S256x1024_S256x1024_0_0) (fun _ => rfl)) (.inl rfl))

/-- A row block of the result buffer replaced by its sum with what arrived in slot `t` (the reduce-scatter's step). -/
def addP (l : Bool) (t : Fin 6) (o : Fin 2 → Nat) (h : ∀ a, o a + S256x1024.size a ≤ S2048x1024.size a) :
    Prog (TpuEff nD τ sig (Elt F) Λ₀ .tc) PUnit := do
  let v : Vec F S256x1024 .f32 ← Prog.lift (.load outM (rowsR o h).toLoadRect (View.loadsAt_vmem h_S256x1024))
  let e : Vec F S1x256x1024 .bf16 ← Prog.lift (.load (commM l) (slotRect t).toLoadRect (View.loadsAt_vmem h_S1x256x1024))
  let w : Vec F S256x1024 .f32 ← Prog.lift (.load outM (rowsR o h).toLoadRect (View.loadsAt_vmem h_S256x1024))
  Prog.lift (.store outM (rowsR o h) (k0_pay4 v e) Finset.univ (View.stores_vmem_bits_univ h_S256x1024 rfl) (.inl rfl))

/-- A row block of the result buffer replaced by what arrived in slot `t` (the all-gather's step). -/
def putP (l : Bool) (t : Fin 6) (o : Fin 2 → Nat) (h : ∀ a, o a + S256x1024.size a ≤ S2048x1024.size a) :
    Prog (TpuEff nD τ sig (Elt F) Λ₀ .tc) PUnit := do
  let e : Vec F S1x256x1024 .bf16 ← Prog.lift (.load (commM l) (slotRect t).toLoadRect (View.loadsAt_vmem h_S1x256x1024))
  let w : Vec F S256x1024 .f32 ← Prog.lift (.load outM (rowsR o h).toLoadRect (View.loadsAt_vmem h_S256x1024))
  Prog.lift (.store outM (rowsR o h) (k0_pay19 e) Finset.univ (View.stores_vmem_bits_univ h_S256x1024 rfl) (.inl rfl))

/-- The whole result buffer set to this device's context rows times its block of `Wo`. -/
def projP : Prog (TpuEff nD τ sig (Elt F) Λ₀ .tc) PUnit := do
  let v207 : Vec F S2048x1024 .bf16 ← Prog.lift (.load ctxM (Rect.unit (s := S2048x1024) ![0, 0] S2048x1024.size inb_S2048x1024_S2048x1024_0_0).toLoadRect (View.loadsAt_vmem h_S2048x1024))
  let v208 : Vec F S1024x1024 .f32 ← Prog.lift (.load woM (Rect.unit (s := S1024x1024) ![0, 0] S1024x1024.size inb_S1024x1024_S1024x1024_0_0).toLoadRect (View.loadsAt_vmem h_S1024x1024))
  let v212 : Vec F S2048x1024 .f32 ← Prog.lift (.load outM (Rect.unit (s := S2048x1024) ![0, 0] S2048x1024.size inb_S2048x1024_S2048x1024_0_0).toLoadRect (View.loadsAt_vmem h_S2048x1024))
  Prog.lift (.store outM (Rect.unit (s := S2048x1024) ![0, 0] S2048x1024.size inb_S2048x1024_S2048x1024_0_0) (k0_pay1 v207 v208) Finset.univ (View.stores_vmem_bits_univ h_S2048x1024 rfl) (.inl rfl))

/-- The handshake with both neighbours. -/
def barP (p n : Dev nD) : Prog (TpuEff nD τ sig (Elt F) Λ₀ .tc) PUnit := do
  semSignalWord p barS 1#32
  semSignalWord n barS 1#32
  semWaitWord barS 2#32

/-- One hop of the reduce-scatter. -/
def rsP (t : Fin 6) (r l : Dev nD) (oR oL aR aL : Fin 2 → Nat)
    (hoR : ∀ a, oR a + S256x1024.size a ≤ S2048x1024.size a) (hoL : ∀ a, oL a + S256x1024.size a ≤ S2048x1024.size a)
    (haR : ∀ a, aR a + S256x1024.size a ≤ S2048x1024.size a) (haL : ∀ a, aL a + S256x1024.size a ≤ S2048x1024.size a) :
    Prog (TpuEff nD τ sig (Elt F) Λ₀ .tc) PUnit := do
  stageP false oR hoR
  stageP true oL hoL
  xchP (stageM false) (stageM true) (stageM_whole false).wordExact (stageM_whole true).wordExact t r l
  addP false t aR haR
  addP true t aL haL

/-- One hop of the all-gather. -/
def agP (sR sL : Memref sig .tc .vmem S256x1024 .bf16) (hR : sR.view.WordExact) (hL : sL.view.WordExact)
    (t : Fin 6) (r l : Dev nD) (oR oL : Fin 2 → Nat)
    (hoR : ∀ a, oR a + S256x1024.size a ≤ S2048x1024.size a) (hoL : ∀ a, oL a + S256x1024.size a ≤ S2048x1024.size a) :
    Prog (TpuEff nD τ sig (Elt F) Λ₀ .tc) PUnit := do
  xchP sR sL hR hL t r l
  putP false t oR hoR
  putP true t oL hoL

/-- What the last grid point does after its head: the projection, the handshake and the six hops. -/
def lastP (i : grid0.Coords) (d0 : Dev nD) (h4 : k0_cond4 i = 1#1) : Prog (TpuEff nD τ sig (Elt F) Λ₀ .tc) PUnit := do
  projP
  barP ⟨k0_dev1 d0, k0_dev1_lt i d0 h4⟩ ⟨k0_dev2 d0, k0_dev2_lt i d0 h4⟩
  rsP 0 ⟨k0_dev3 d0, k0_dev3_lt i d0 h4⟩ ⟨k0_dev4 d0, k0_dev4_lt i d0 h4⟩
    (k0_off16 d0 0#32) (k0_off17 d0 0#32) (k0_off18 d0 0#32) (k0_off19 d0 0#32)
    (k0_off16_inb i d0 h4 0) (k0_off17_inb i d0 h4 0) (k0_off18_inb i d0 h4 0) (k0_off19_inb i d0 h4 0)
  rsP 1 ⟨k0_dev5 d0, k0_dev5_lt i d0 h4⟩ ⟨k0_dev6 d0, k0_dev6_lt i d0 h4⟩
    (k0_off16 d0 1#32) (k0_off17 d0 1#32) (k0_off18 d0 1#32) (k0_off19 d0 1#32)
    (k0_off16_inb i d0 h4 1) (k0_off17_inb i d0 h4 1) (k0_off18_inb i d0 h4 1) (k0_off19_inb i d0 h4 1)
  rsP 2 ⟨k0_dev7 d0, k0_dev7_lt i d0 h4⟩ ⟨k0_dev8 d0, k0_dev8_lt i d0 h4⟩
    (k0_off16 d0 2#32) (k0_off17 d0 2#32) (k0_off18 d0 2#32) (k0_off19 d0 2#32)
    (k0_off16_inb i d0 h4 2) (k0_off17_inb i d0 h4 2) (k0_off18_inb i d0 h4 2) (k0_off19_inb i d0 h4 2)
  stageP false (k0_off20 d0) (k0_off20_inb i d0 h4)
  stageP true (k0_off21 d0) (k0_off21_inb i d0 h4)
  agP (stageM false) (stageM true) (stageM_whole false).wordExact (stageM_whole true).wordExact 3
    ⟨k0_dev9 d0, k0_dev9_lt i d0 h4⟩ ⟨k0_dev10 d0, k0_dev10_lt i d0 h4⟩
    (k0_off16 d0 0#32) (k0_off17 d0 0#32) (k0_off16_inb i d0 h4 0) (k0_off17_inb i d0 h4 0)
  agP (slotM false 3) (slotM true 3) (slot_exact false 3) (slot_exact true 3) 4
    ⟨k0_dev11 d0, k0_dev11_lt i d0 h4⟩ ⟨k0_dev12 d0, k0_dev12_lt i d0 h4⟩
    (k0_off16 d0 1#32) (k0_off17 d0 1#32) (k0_off16_inb i d0 h4 1) (k0_off17_inb i d0 h4 1)
  agP (slotM false 4) (slotM true 4) (slot_exact false 4) (slot_exact true 4) 5
    ⟨k0_dev13 d0, k0_dev13_lt i d0 h4⟩ ⟨k0_dev14 d0, k0_dev14_lt i d0 h4⟩
    (k0_off16 d0 2#32) (k0_off17 d0 2#32) (k0_off16_inb i d0 h4 2) (k0_off17_inb i d0 h4 2)

/-! ## The heads -/

/-- The key (`false`) or value (`true`) double buffer, -/
abbrev kvM (kv : Bool) : Memref sig .tc .vmem S2x2048x1x128 .f32 :=
  match kv with | false => Memref.whole cc0_scratch2 | true => Memref.whole cc0_scratch3
/-- the array it is filled from, -/
abbrev kvA (kv : Bool) : Memref sig .tc .hbm S1x2048x32x128 .f32 :=
  match kv with | false => Memref.whole main_arg2 | true => Memref.whole main_arg3
/-- one buffer of the two, -/
abbrev kvSlotM (kv : Bool) (o : Fin 4 → Nat) (h : ∀ a, o a + S1x2048x1x128.size a ≤ S2x2048x1x128.size a) :
    Memref sig .tc .vmem S2048x1x128 .f32 :=
  ((kvM kv).slice (Rect.unit (s := S2x2048x1x128) o S1x2048x1x128.size h) (fun _ => rfl)).squeeze S2048x1x128 squeezes_S1x2048x1x128_S2048x1x128
/-- one head of the array, -/
abbrev kvHeadM (kv : Bool) (o : Fin 4 → Nat) (h : ∀ a, o a + S1x2048x1x128.size a ≤ S1x2048x32x128.size a) :
    Memref sig .tc .hbm S2048x1x128 .f32 :=
  ((kvA kv).slice (Rect.unit (s := S1x2048x32x128) o S1x2048x1x128.size h) (fun _ => rfl)).squeeze S2048x1x128 squeezes_S1x2048x1x128_S2048x1x128
/-- and the semaphore of one copy. -/
abbrev kvS (o : Fin 2 → Nat) (h : ∀ a, o a + S1x1.size a ≤ S2x2.size a) : DmaSem sig :=
  (((cc0_scratch4 : DmaSems sig S2x2).slice (Rect.unit (s := S2x2) o S1x1.size h)).squeeze S_ squeezes_S1x1_S_).sem

/-- A head's copy into one buffer, started. -/
def kvStart (kv : Bool) (os : Fin 2 → Nat) (o : Fin 4 → Nat) (oh : Fin 4 → Nat) (hs : ∀ a, os a + S1x1.size a ≤ S2x2.size a)
    (h : ∀ a, o a + S1x2048x1x128.size a ≤ S2x2048x1x128.size a) (hh : ∀ a, oh a + S1x2048x1x128.size a ≤ S1x2048x32x128.size a) :
    Prog (TpuEff nD τ sig (Elt F) Λ₀ .tc) PUnit :=
  Prog.lift (.enqueueDma (kvHeadM kv oh hh) (.here (kvSlotM kv o h)) (.dma (kvS os hs)) ((View.wordExact_bits rfl).reshape _ _) ((View.wordExact_bits rfl).reshape _ _) ⟨Or.inl rfl, trivial⟩)

/-- A head's copy waited for. -/
def kvWait (kv : Bool) (os : Fin 2 → Nat) (o : Fin 4 → Nat) (oh : Fin 4 → Nat) (hs : ∀ a, os a + S1x1.size a ≤ S2x2.size a)
    (h : ∀ a, o a + S1x2048x1x128.size a ≤ S2x2048x1x128.size a) (hh : ∀ a, oh a + S1x2048x1x128.size a ≤ S1x2048x32x128.size a) :
    Prog (TpuEff nD τ sig (Elt F) Λ₀ .tc) PUnit :=
  Prog.lift (.waitDma2 (kvS os hs) (kvHeadM kv oh hh) (kvSlotM kv o h) ((View.wordExact_bits rfl).reshape _ _) ((View.wordExact_bits rfl).reshape _ _))

/-- The first head's keys and values started, at the first grid point. -/
def start0P (i : grid0.Coords) (d0 : Dev nD) : Prog (TpuEff nD τ sig (Elt F) Λ₀ .tc) PUnit :=
  if h1 : k0_cond1 i = 1#1 then do
    kvStart false ![0, 0] ![0, 0, 0, 0] (k0_off1 d0) inb_S2x2_S1x1_0_0 inb_S2x2048x1x128_S1x2048x1x128_0_0_0_0 (k0_off1_inb i d0 h1)
    kvStart true ![1, 0] ![0, 0, 0, 0] (k0_off1 d0) inb_S2x2_S1x1_1_0 inb_S2x2048x1x128_S1x2048x1x128_0_0_0_0 (k0_off1_inb i d0 h1)
  else pure ⟨⟩

/-- The next head's keys and values started, before every grid point's head but the last's. -/
def startNP (i : grid0.Coords) (d0 : Dev nD) : Prog (TpuEff nD τ sig (Elt F) Λ₀ .tc) PUnit :=
  if h2 : k0_cond2 i = 1#1 then do
    kvStart false (k0_off2 i) (k0_off3 i) (k0_off4 i d0) (k0_off2_inb i h2) (k0_off3_inb i h2) (k0_off4_inb i d0 h2)
    kvStart true (k0_off5 i) (k0_off3 i) (k0_off4 i d0) (k0_off5_inb i h2) (k0_off3_inb i h2) (k0_off4_inb i d0 h2)
  else pure ⟨⟩

/-- Whether this is the first grid point, as the body computes it. -/
abbrev first (i : grid0.Coords) : BitVec 1 :=
  Scalar.cmpi .ne (Scalar.extui (Scalar.cmpi .eq (BitVec.ofNat 32 (i 0).val) 0#32)) (0#32)

/-- All heads' queries, at the first grid point. -/
def queryP (i : grid0.Coords) : Prog (TpuEff nD τ sig (Elt F) Λ₀ .tc) PUnit :=
  if h3 : first i = 1#1 then do
    let v207 : Vec F S1x2048x1024 .f32 ← Prog.lift (.load xM (Rect.unit (s := S1x2048x1024) ![0, 0, 0] S1x2048x1024.size inb_S1x2048x1024_S1x2048x1024_0_0_0).toLoadRect (View.loadsAt_vmem h_S1x2048x1024))
    let v210 : Vec F S1024x1024 .f32 ← Prog.lift (.load wqM (Rect.unit (s := S1024x1024) ![0, 0] S1024x1024.size inb_S1024x1024_S1024x1024_0_0).toLoadRect (View.loadsAt_vmem h_S1024x1024))
    let v217 : Vec F S2048x1024 .bf16 ← Prog.lift (.load qM (Rect.unit (s := S2048x1024) ![0, 0] S2048x1024.size inb_S2048x1024_S2048x1024_0_0).toLoadRect (View.loadsAt_vmem h_S2048x1024))
    Prog.lift (.store qM (Rect.unit (s := S2048x1024) ![0, 0] S2048x1024.size inb_S2048x1024_S2048x1024_0_0) (k0_pay25 v207 v210) Finset.univ (View.stores_vmem h_S2048x1024 ((Memref.isWhole_whole _).storeExact_slice rfl _ packedbf16_S2048x1024_S2048x1024_0_0) (fun _ => rfl)) (.inl rfl))
  else pure ⟨⟩

/-- The rows of a head's context: the four query tiles of 512 rows, from the head's keys, values and queries. -/
abbrev tile0 (v37 v41 : Vec F S1x2048x1x128 .f32) (v46 : Vec F S2048x128 .bf16) : FVec F S512x128 .bf16 :=
  k0_pay32 (k0_pay31 (k0_pay26 v37) (k0_pay27 v41) v46 k0_pay28 k0_pay29 1#32)
abbrev tile1 (v37 v41 : Vec F S1x2048x1x128 .f32) (v46 : Vec F S2048x128 .bf16) : FVec F S512x128 .bf16 :=
  k0_pay33 (k0_pay26 v37) (k0_pay27 v41) v46 (k0_pay30 k0_pay28 k0_pay29 1#32)
abbrev tile2 (v37 v41 : Vec F S1x2048x1x128 .f32) (v46 : Vec F S2048x128 .bf16) : FVec F S512x128 .bf16 :=
  k0_pay38 (k0_pay27 v41) (k0_pay35 (k0_pay26 v37) v46 (k0_pay30 k0_pay28 k0_pay29 1#32)) (k0_pay36 (k0_pay26 v37) v46)
    (k0_pay37 (k0_pay26 v37) v46 (k0_pay30 k0_pay28 k0_pay29 1#32))
abbrev tile3 (v37 v41 : Vec F S1x2048x1x128 .f32) (v46 : Vec F S2048x128 .bf16) : FVec F S512x128 .bf16 :=
  k0_pay39 (k0_pay26 v37) (k0_pay27 v41) v46 (k0_pay30 k0_pay28 k0_pay29 1#32)

/-- A tile of 512 rows and one head's 128 columns of the context buffer. -/
abbrev tileR (o : Fin 2 → Nat) (h : ∀ a, o a + S512x128.size a ≤ S2048x1024.size a) : Rect S2048x1024 :=
  Rect.unit (s := S2048x1024) o S512x128.size h

/-- One tile stored. -/
def tileP (o : Fin 2 → Nat) (h : ∀ a, o a + S512x128.size a ≤ S2048x1024.size a) (hp : (tileR o h).PackedRows (EltTy.packing .bf16))
    (w : FVec F S512x128 .bf16) : Prog (TpuEff nD τ sig (Elt F) Λ₀ .tc) PUnit := do
  let v : Vec F S512x128 .bf16 ← Prog.lift (.load ctxM (tileR o h).toLoadRect (View.loadsAt_vmem h_S512x128))
  Prog.lift (.store ctxM (tileR o h) w Finset.univ (View.stores_vmem h_S512x128 ((Memref.isWhole_whole _).storeExact_slice rfl _ hp) (fun _ => rfl)) (.inl rfl))

/-- One head: its copies waited for, its four tiles computed and stored. -/
def headP (i : grid0.Coords) (d0 : Dev nD) : Prog (TpuEff nD τ sig (Elt F) Λ₀ .tc) PUnit := do
  kvWait false (k0_off6 i) (k0_off7 i) (k0_off8 i d0) (k0_off6_inb i) (k0_off7_inb i) (k0_off8_inb i d0)
  kvWait true (k0_off9 i) (k0_off7 i) (k0_off8 i d0) (k0_off9_inb i) (k0_off7_inb i) (k0_off8_inb i d0)
  let v37 : Vec F S1x2048x1x128 .f32 ← Prog.lift (.load (kvM false) (Rect.unit (s := S2x2048x1x128) (k0_off10 i) S1x2048x1x128.size (k0_off10_inb i)).toLoadRect (View.loadsAt_vmem h_S1x2048x1x128))
  let v41 : Vec F S1x2048x1x128 .f32 ← Prog.lift (.load (kvM true) (Rect.unit (s := S2x2048x1x128) (k0_off10 i) S1x2048x1x128.size (k0_off10_inb i)).toLoadRect (View.loadsAt_vmem h_S1x2048x1x128))
  let v46 : Vec F S2048x128 .bf16 ← Prog.lift (.load qM (Rect.unit (s := S2048x1024) (k0_off11 i) S2048x128.size (k0_off11_inb i)).toLoadRect (View.loadsAt_vmem h_S2048x128))
  tileP (k0_off12 i) (k0_off12_inb i) (k0_off12_packedbf16 i) (tile0 v37 v41 v46)
  tileP (k0_off13 i) (k0_off13_inb i) (k0_off13_packedbf16 i) (tile1 v37 v41 v46)
  tileP (k0_off14 i) (k0_off14_inb i) (k0_off14_packedbf16 i) (tile2 v37 v41 v46)
  tileP (k0_off15 i) (k0_off15_inb i) (k0_off15_packedbf16 i) (tile3 v37 v41 v46)

/-- The body over the pieces. -/
def bodyP (i : grid0.Coords) : Prog (TpuEff nD τ sig (Elt F) Λ₀ .tc) PUnit := do
  let d0 : Dev nD ← Prog.lift .deviceId
  start0P i d0
  startNP i d0
  queryP i
  headP i d0
  if h4 : k0_cond4 i = 1#1 then lastP i d0 h4 else pure ⟨⟩

set_option maxRecDepth 65536 in
set_option maxHeartbeats 4000000 in
/-- The printed last step is the last step over the pieces. -/
theorem last_eq (i : grid0.Coords) (d0 : Dev nD) (h4 : k0_cond4 i = 1#1) :
    (k0_part23 (F := F) i (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 d0 h4).bind (fun r => Prog.bind (Prog.lift (.load outM (rowsR (k0_off17 d0 2#32) (k0_off17_inb i d0 h4 2)).toLoadRect (View.loadsAt_vmem h_S256x1024)))
      fun _ => Prog.lift (.store outM (rowsR (k0_off17 d0 2#32) (k0_off17_inb i d0 h4 2)) r.1 Finset.univ (View.stores_vmem_bits_univ h_S256x1024 rfl) (.inl rfl))) = lastP i d0 h4 := rfl

set_option maxRecDepth 65536 in
set_option maxHeartbeats 4000000 in
/-- The printed body is the body over the pieces. -/
theorem body_eq (t : Fin cfg0.N) : bodyAt0 (F := F) t = bodyP (grid0.coords t) := by
  generalize hi : grid0.coords t = i
  unfold bodyAt0
  rw [hi]
  have e0 : ∀ s, stage0_0 s = Memref.whole cc0_stg0_0 := fun s => by
    obtain rfl : s = (0 : Fin 1) := Subsingleton.elim (α := Fin 1) _ _
    rfl
  have e1 : ∀ s, stage0_1 s = Memref.whole cc0_stg1_0 := fun s => by
    obtain rfl : s = (0 : Fin 1) := Subsingleton.elim (α := Fin 1) _ _
    rfl
  have e2 : ∀ s, stage0_2 s = Memref.whole cc0_stg2_0 := fun s => by
    obtain rfl : s = (0 : Fin 1) := Subsingleton.elim (α := Fin 1) _ _
    rfl
  have e3 : ∀ s, stage0_3 s = Memref.whole cc0_stg3_0 := fun s => by
    obtain rfl : s = (0 : Fin 1) := Subsingleton.elim (α := Fin 1) _ _
    rfl
  simp only [e0, e1, e2, e3]
  show cc0__body (F := F) i (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 = _
  rw [cc0__body_eq_skeleton]
  unfold cc0__body_skel bodyP
  rw [k0_part24_eq_skeleton]
  unfold k0_part24_skel start0P startNP queryP
  by_cases h1 : k0_cond1 i = 1#1 <;> by_cases h2 : k0_cond2 i = 1#1 <;> by_cases h3 : first i = 1#1 <;>
    by_cases h4 : k0_cond4 i = 1#1 <;>
  simp only [h1, h2, h3, h4, dif_pos, dif_neg, not_false_eq_true]
  all_goals rfl

end Cert.KernelIdeal.Own

end
-- ==== Proof.KernelIdealCommon.lean ====
/-
  The ring, the addresses and the contents.

  The neighbours of a device, the closed forms of the addresses the body computes from its device id and grid point, and
  what each buffer holds at each moment: a head's context tile (`tileV`), the projected rows (`yv`), a row block during the
  reduce-scatter (`ch`) and the all-gather (`ag`), what a hop sends (`sent`) and the result (`outF`).
-/
module

public import proofs.«01_k».proof.Proof.KernelIdealProg
public import proofs.«01_k».proof.Proof.Gen.KernelIdeal.Frame
public import Idealize.ShloMosaic.Lib.Pipeline.Launch
public import Idealize.ShloMosaic.Lib.Pipeline.Kit
public import Idealize.ShloMosaic.Lib.Transfers
public import Idealize.ShloMosaic.Lib.Tactic

@[expose] public section

set_option maxRecDepth 16384

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The ring -/

set_option backward.proofsInPublic true in
/-- The right neighbour, -/
def nxt (c : Dev nD) : Dev nD := ⟨(c.val + 1) % 4, Nat.mod_lt _ (by decide)⟩
set_option backward.proofsInPublic true in
/-- and the left one. -/
def prv (c : Dev nD) : Dev nD := ⟨(c.val + 3) % 4, Nat.mod_lt _ (by decide)⟩

/-- Where a direction's arrivals come from: `false` from the left neighbour, `true` from the right one; -/
def src (l : Bool) (c : Dev nD) : Dev nD := if l then nxt c else prv c
/-- and where its transfers go. -/
def dst (l : Bool) (c : Dev nD) : Dev nD := if l then prv c else nxt c

theorem src_dst (l : Bool) (c : Dev nD) : src l (dst l c) = c := by revert l c; decide
theorem dst_src (l : Bool) (c : Dev nD) : dst l (src l c) = c := by revert l c; decide
theorem prv_nxt (c : Dev nD) : prv (nxt c) = c := by revert c; decide
theorem nxt_prv (c : Dev nD) : nxt (prv c) = c := by revert c; decide
theorem nxt_ne_prv (c : Dev nD) : nxt c ≠ prv c := by revert c; decide

/-- The device `n` hops back in a direction. -/
def back (l : Bool) : ℕ → Dev nD → Dev nD
  | 0, c => c
  | n + 1, c => src l (back l n c)
theorem back_src (l : Bool) (n : ℕ) (c : Dev nD) : back l n (src l c) = back l (n + 1) c := by
  induction n with
  | zero => rfl
  | succ n ih => show src l (back l n (src l c)) = _; rw [ih]; rfl

def ringE : Dev nD ≃ Dev nD := ⟨nxt, prv, prv_nxt, nxt_prv⟩
def dstE (l : Bool) : Dev nD ≃ Dev nD := ⟨dst l, src l, src_dst l, dst_src l⟩

/-- The row offset of the block a direction moves for device `d`: the first 1024 rows travel right, the others left. -/
def chunkO (l : Bool) (d : Dev nD) : Fin 2 → Nat := ![(if l then 1024 else 0) + 256 * d.val, 0]
theorem chunk_inb (l : Bool) (d : Dev nD) : ∀ a, chunkO l d a + S256x1024.size a ≤ S2048x1024.size a := by
  revert l d; decide

/-! ## The addresses the body computes -/

theorem off16_eq0 (d : Dev nD) : k0_off16 d 0#32 = chunkO false (back false 0 d) := by revert d; decide +kernel
theorem off16_eq1 (d : Dev nD) : k0_off16 d 1#32 = chunkO false (back false 1 d) := by revert d; decide +kernel
theorem off16_eq2 (d : Dev nD) : k0_off16 d 2#32 = chunkO false (back false 2 d) := by revert d; decide +kernel
theorem off17_eq0 (d : Dev nD) : k0_off17 d 0#32 = chunkO true (back true 0 d) := by revert d; decide +kernel
theorem off17_eq1 (d : Dev nD) : k0_off17 d 1#32 = chunkO true (back true 1 d) := by revert d; decide +kernel
theorem off17_eq2 (d : Dev nD) : k0_off17 d 2#32 = chunkO true (back true 2 d) := by revert d; decide +kernel
theorem off18_eq0 (d : Dev nD) : k0_off18 d 0#32 = chunkO false (back false 1 d) := by revert d; decide +kernel
theorem off18_eq1 (d : Dev nD) : k0_off18 d 1#32 = chunkO false (back false 2 d) := by revert d; decide +kernel
theorem off18_eq2 (d : Dev nD) : k0_off18 d 2#32 = chunkO false (back false 3 d) := by revert d; decide +kernel
theorem off19_eq0 (d : Dev nD) : k0_off19 d 0#32 = chunkO true (back true 1 d) := by revert d; decide +kernel
theorem off19_eq1 (d : Dev nD) : k0_off19 d 1#32 = chunkO true (back true 2 d) := by revert d; decide +kernel
theorem off19_eq2 (d : Dev nD) : k0_off19 d 2#32 = chunkO true (back true 3 d) := by revert d; decide +kernel
theorem off20_eq (d : Dev nD) : k0_off20 d = chunkO false (back false 3 d) := by revert d; decide +kernel
theorem off21_eq (d : Dev nD) : k0_off21 d = chunkO true (back true 3 d) := by revert d; decide +kernel

theorem dev1_eq (c : Dev nD) : k0_dev1 c = (prv c).val := by revert c; decide +kernel
theorem dev2_eq (c : Dev nD) : k0_dev2 c = (nxt c).val := by revert c; decide +kernel
theorem dev3_eq (c : Dev nD) : k0_dev3 c = (dst false c).val := by revert c; decide +kernel
theorem dev4_eq (c : Dev nD) : k0_dev4 c = (dst true c).val := by revert c; decide +kernel
theorem dev5_eq (c : Dev nD) : k0_dev5 c = (dst false c).val := by revert c; decide +kernel
theorem dev6_eq (c : Dev nD) : k0_dev6 c = (dst true c).val := by revert c; decide +kernel
theorem dev7_eq (c : Dev nD) : k0_dev7 c = (dst false c).val := by revert c; decide +kernel
theorem dev8_eq (c : Dev nD) : k0_dev8 c = (dst true c).val := by revert c; decide +kernel
theorem dev9_eq (c : Dev nD) : k0_dev9 c = (dst false c).val := by revert c; decide +kernel
theorem dev10_eq (c : Dev nD) : k0_dev10 c = (dst true c).val := by revert c; decide +kernel
theorem dev11_eq (c : Dev nD) : k0_dev11 c = (dst false c).val := by revert c; decide +kernel
theorem dev12_eq (c : Dev nD) : k0_dev12 c = (dst true c).val := by revert c; decide +kernel
theorem dev13_eq (c : Dev nD) : k0_dev13 c = (dst false c).val := by revert c; decide +kernel
theorem dev14_eq (c : Dev nD) : k0_dev14 c = (dst true c).val := by revert c; decide +kernel

theorem coords_val (t : Fin grid0.N) : (grid0.coords t 0).val = t.val := by revert t; decide +kernel

/-- The conditions of the body at a grid point: the first, all but the last, the first, the last. -/
theorem cond1_iff (t : Fin grid0.N) : k0_cond1 (grid0.coords t) = 1#1 ↔ t.val = 0 := by revert t; decide +kernel
theorem cond2_iff (t : Fin grid0.N) : k0_cond2 (grid0.coords t) = 1#1 ↔ t.val + 1 < 8 := by revert t; decide +kernel
theorem first_iff (t : Fin grid0.N) : first (grid0.coords t) = 1#1 ↔ t.val = 0 := by revert t; decide +kernel
theorem cond4_iff (t : Fin grid0.N) : k0_cond4 (grid0.coords t) = 1#1 ↔ t.val = 7 := by revert t; decide +kernel

/-- Head `h`'s buffer of the two: its semaphores and its place, -/
def kvSO (kv : Bool) (b : ℕ) : Fin 2 → Nat := ![if kv then 1 else 0, b % 2]
def kvO (b : ℕ) : Fin 4 → Nat := ![b % 2, 0, 0, 0]
/-- and the head's place in the keys and values of all devices. -/
def headO (c : Dev nD) (h : ℕ) : Fin 4 → Nat := ![0, 0, 8 * c.val + h, 0]

theorem kvSO_inb (kv : Bool) (b : ℕ) : ∀ a, kvSO kv b a + S1x1.size a ≤ S2x2.size a := by
  unfold kvSO
  rcases Nat.mod_two_eq_zero_or_one b with h | h <;> rw [h] <;> revert kv <;> decide
theorem kvO_inb (b : ℕ) : ∀ a, kvO b a + S1x2048x1x128.size a ≤ S2x2048x1x128.size a := by
  unfold kvO
  rcases Nat.mod_two_eq_zero_or_one b with h | h <;> rw [h] <;> decide
theorem headO_inb (c : Dev nD) (t : Fin grid0.N) : ∀ a, headO c t.val a + S1x2048x1x128.size a ≤ S1x2048x32x128.size a := by
  revert c t; decide +kernel

theorem off1_eq (c : Dev nD) : k0_off1 c = headO c 0 := k0_off1_eq c
theorem off2_eq (t : Fin grid0.N) : k0_off2 (grid0.coords t) = kvSO false (t.val + 1) := by revert t; decide +kernel
theorem off3_eq (t : Fin grid0.N) : k0_off3 (grid0.coords t) = kvO (t.val + 1) := by revert t; decide +kernel
theorem off4_eq (t : Fin grid0.N) (c : Dev nD) : k0_off4 (grid0.coords t) c = headO c (t.val + 1) := by revert t c; decide +kernel
theorem off5_eq (t : Fin grid0.N) : k0_off5 (grid0.coords t) = kvSO true (t.val + 1) := by revert t; decide +kernel
theorem off6_eq (t : Fin grid0.N) : k0_off6 (grid0.coords t) = kvSO false t.val := by revert t; decide +kernel
theorem off7_eq (t : Fin grid0.N) : k0_off7 (grid0.coords t) = kvO t.val := by revert t; decide +kernel
theorem off8_eq (t : Fin grid0.N) (c : Dev nD) : k0_off8 (grid0.coords t) c = headO c t.val := by revert t c; decide +kernel
theorem off9_eq (t : Fin grid0.N) : k0_off9 (grid0.coords t) = kvSO true t.val := by revert t; decide +kernel
theorem off10_eq (t : Fin grid0.N) : k0_off10 (grid0.coords t) = kvO t.val := by revert t; decide +kernel

/-- The place of query tile `j` of head `h` in the context buffer. -/
def tileO (h j : ℕ) : Fin 2 → Nat := ![512 * j, 128 * h]
theorem tileO_inb (t : Fin grid0.N) (j : Fin 4) : ∀ a, tileO t.val j.val a + S512x128.size a ≤ S2048x1024.size a := by
  revert t j; decide +kernel
theorem off11_eq (t : Fin grid0.N) : k0_off11 (grid0.coords t) = tileO t.val 0 := by revert t; decide +kernel
theorem off12_eq (t : Fin grid0.N) : k0_off12 (grid0.coords t) = tileO t.val 0 := by revert t; decide +kernel
theorem off13_eq (t : Fin grid0.N) : k0_off13 (grid0.coords t) = tileO t.val 1 := by revert t; decide +kernel
theorem off14_eq (t : Fin grid0.N) : k0_off14 (grid0.coords t) = tileO t.val 2 := by revert t; decide +kernel
theorem off15_eq (t : Fin grid0.N) : k0_off15 (grid0.coords t) = tileO t.val 3 := by revert t; decide +kernel
theorem headCols_inb (t : Fin grid0.N) : ∀ a, tileO t.val 0 a + S2048x128.size a ≤ S2048x1024.size a := by
  revert t; decide +kernel

/-! ## A squeezed slot's value as a load of the slot reads it -/

/-- The value of a slot of a communication buffer, with its leading axis of one put back. -/
def lift (X : Vec F S256x1024 .bf16) : Vec F S1x256x1024 .bf16 :=
  fun j => X ((Shape.reshapeEquiv squeezes_S1x256x1024_S256x1024.numel_eq).symm j)
/-- The value of a key or value buffer, with its leading axis of one put back. -/
def liftKv (X : Vec F S2048x1x128 .f32) : Vec F S1x2048x1x128 .f32 :=
  fun j => X ((Shape.reshapeEquiv squeezes_S1x2048x1x128_S2048x1x128.numel_eq).symm j)

omit [FloatOps F] in
theorem readAt_slot (l : Bool) (t : Fin 6) (f : (commM l).view.ref.ty.Contents (Elt F)) :
    (commM l).view.readAt (Elt F) (slotRect t).toLoadRect f = lift ((slotM l t).view.read (Elt F) f) := by
  funext j
  obtain ⟨i, rfl⟩ := (Shape.reshapeEquiv squeezes_S1x256x1024_S256x1024.numel_eq).surjective j
  unfold lift
  rw [Equiv.symm_apply_apply, View.readAt_apply, View.read_apply, View.read_apply]
  rfl

omit [FloatOps F] in
theorem readAt_kv (kv : Bool) (o : Fin 4 → Nat) (h : ∀ a, o a + S1x2048x1x128.size a ≤ S2x2048x1x128.size a)
    (f : (kvM kv).view.ref.ty.Contents (Elt F)) :
    (kvM kv).view.readAt (Elt F) (Rect.unit (s := S2x2048x1x128) o S1x2048x1x128.size h).toLoadRect f
      = liftKv ((kvSlotM kv o h).view.read (Elt F) f) := by
  funext j
  obtain ⟨i, rfl⟩ := (Shape.reshapeEquiv squeezes_S1x2048x1x128_S2048x1x128.numel_eq).surjective j
  unfold liftKv
  rw [Equiv.symm_apply_apply, View.readAt_apply, View.read_apply, View.read_apply]
  rfl

/-! ## The contents -/

variable (m : (ℓ : Loc nD τ sig) → Buf (Elt F) ℓ)

/-- All of a device's queries, as the first grid point stores them. -/
def qv (c : Dev nD) : Vec F S2048x1024 .bf16 := k0_pay25 (iblk m c 0 t0_0) (iblk m c 1 t0_0)
/-- The queries of head `t`. -/
def qS (c : Dev nD) (t : Fin grid0.N) : Vec F S2048x128 .bf16 :=
  qM.view.readAt (Elt F) (Rect.unit (s := S2048x1024) (tileO t.val 0) S2048x128.size (headCols_inb t)).toLoadRect (qv m c)
/-- The key or value rows of head `t`. -/
def kvV (kv : Bool) (c : Dev nD) : (kvA kv).view.ref.ty.Contents (Elt F) := m ((kvA kv).view.loc (c : Thread nD τ))
def kvSq (kv : Bool) (c : Dev nD) (t : Fin grid0.N) : Vec F S2048x1x128 .f32 :=
  (kvHeadM kv (headO c t.val) (headO_inb c t)).view.read (Elt F) (kvV m kv c)
def kS (kv : Bool) (c : Dev nD) (t : Fin grid0.N) : Vec F S1x2048x1x128 .f32 := liftKv (kvSq m kv c t)
/-- Query tile `j` of head `t`'s context. -/
def tileV (c : Dev nD) (t : Fin grid0.N) : Fin 4 → FVec F S512x128 .bf16
  | 0 => tile0 (kS m false c t) (kS m true c t) (qS m c t)
  | 1 => tile1 (kS m false c t) (kS m true c t) (qS m c t)
  | 2 => tile2 (kS m false c t) (kS m true c t) (qS m c t)
  | 3 => tile3 (kS m false c t) (kS m true c t) (qS m c t)

set_option backward.proofsInPublic true in
/-- Every head's context side by side. -/
def ctxv (c : Dev nD) : Vec F S2048x1024 .bf16 := fun i =>
  tileV m c ⟨(i 1).val / 128, by have := (i 1).isLt; rw [N_0]; show _ < 8; change (i 1).val < 1024 at this; omega⟩
    ⟨(i 0).val / 512, by have := (i 0).isLt; change (i 0).val < 2048 at this; omega⟩
    (fun a => match a with
      | ⟨0, _⟩ => ⟨(i 0).val % 512, Nat.mod_lt _ (by decide)⟩
      | ⟨1, _⟩ => ⟨(i 1).val % 128, Nat.mod_lt _ (by decide)⟩)
/-- The device's own projected rows. -/
def yv (c : Dev nD) : Vec F S2048x1024 .f32 := k0_pay1 (ctxv m c) (iblk m c 2 t0_7)

/-- The row block of device `j` in a direction, of contents of the result buffer. -/
abbrev rowsOf (l : Bool) (j : Dev nD) (f : Vec F S2048x1024 .f32) : Vec F S256x1024 .f32 :=
  outM.view.readAt (Elt F) (rowsR (chunkO l j) (chunk_inb l j)).toLoadRect f

/-- A row block of the result buffer after `t` hops of the reduce-scatter: each hop adds what arrived to one block. -/
def ch : ℕ → Dev nD → Bool → Dev nD → Vec F S256x1024 .f32
  | 0, c, l, j => rowsOf l j (yv m c)
  | t + 1, c, l, j =>
    if j = back l (t + 1) c then k0_pay4 (ch t c l j) (lift (k0_pay2 (ch t (src l c) l (back l t (src l c))))) else ch t c l j

/-- What a device sends at hop `t`: its rounded block in the first four, then what arrived at the hop before. -/
def sent (l : Bool) : ℕ → Dev nD → Vec F S256x1024 .bf16
  | 4, c => k0_pay2 (ch m 3 (src l c) l (back l 3 (src l c)))
  | 5, c => k0_pay2 (ch m 3 (src l (src l c)) l (back l 3 (src l (src l c))))
  | t, c => k0_pay2 (ch m t c l (back l t c))

/-- A row block of the result buffer after `k` hops of the all-gather: each hop replaces one block by what arrived. -/
def ag : ℕ → Dev nD → Bool → Dev nD → Vec F S256x1024 .f32
  | 0, c, l, j => ch m 3 c l j
  | k + 1, c, l, j => if j = back l k c then k0_pay19 (lift (sent m l (3 + k) (src l c))) else ag k c l j

set_option backward.proofsInPublic true in
/-- The result. -/
def outF (c : Dev nD) : Vec F S2048x1024 .f32 := fun i =>
  ag m 3 c (decide (1024 ≤ (i 0).val)) ⟨(i 0).val / 256 % 4, Nat.mod_lt _ (by decide)⟩
    (fun a => match a with
      | ⟨0, _⟩ => ⟨(i 0).val % 256, Nat.mod_lt _ (by decide)⟩
      | ⟨1, _⟩ => ⟨(i 1).val, (i 1).isLt⟩)

/-- The result buffer's contents given block by block. -/
def Holds (f : Vec F S2048x1024 .f32) (g : Bool → Dev nD → Vec F S256x1024 .f32) : Prop := ∀ l j, rowsOf l j f = g l j

/-- The context buffer's contents up to head `n`. -/
def Agree (c : Dev nD) (f : Vec F S2048x1024 .bf16) (n : ℕ) : Prop := ∀ i, (i 1).val < 128 * n → f i = ctxv m c i

theorem agree_all (c : Dev nD) (f : Vec F S2048x1024 .bf16) (h : Agree m c f 8) : f = ctxv m c :=
  funext fun i => h i (by have := (i 1).isLt; change (i 1).val < 1024 at this; omega)

/-- An index of a row block lands in the buffer at the block's offset. -/
theorem rowsOf_apply (l : Bool) (j : Dev nD) (f : Vec F S2048x1024 .f32) (y : S256x1024.Idx) :
    rowsOf l j f y = f ((rowsR (chunkO l j) (chunk_inb l j)).emb y) := rfl

/-- Contents given by the last blocks are the result. -/
theorem holds_out (c : Dev nD) (f : Vec F S2048x1024 .f32) (h : Holds f (fun l j => ag m 3 c l j)) : f = outF m c := by
  funext i
  unfold outF
  refine Eq.trans ?_ (congrFun (h _ _) _)
  rw [rowsOf_apply]
  congr 1
  funext a
  apply Fin.ext
  have h0 := (i 0).isLt
  change (i 0).val < 2048 at h0
  match a with
  | ⟨0, _⟩ =>
    show (i 0).val = ((if decide (1024 ≤ (i 0).val) = true then 1024 else 0) + 256 * ((i 0).val / 256 % 4)) + 1 * ((i 0).val % 256)
    by_cases hl : 1024 ≤ (i 0).val
    · rw [if_pos (decide_eq_true hl)]; omega
    · rw [if_neg (by rw [decide_eq_false hl]; exact Bool.false_ne_true)]; omega
  | ⟨1, _⟩ =>
    show (i 1).val = 0 + 1 * (i 1).val
    omega

end Cert.KernelIdeal.Own

end
-- ==== Proof.KernelIdealSched.lean ====
/-
  The protocol of the exchange.

  The semaphore cells of the ring (the barrier, and a send and a receive cell for each direction and hop), the schedule
  saying which duty of which cell hands over what, the credits each device owes at each moment and the levels that order the
  waits.
-/
module

public import proofs.«01_k».proof.Proof.KernelIdealCommon

@[expose] public section

set_option maxRecDepth 16384

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy, the ring's, and the counters of the local copies -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
/-- The ring's rounds: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

variable (m : (ℓ : Loc nD τ sig) → Buf (Elt F) ℓ) (ρ : Dev nD → PrngReg)

/-! ## The cells -/

/-- A transfer's cell: receive or send, direction, hop. -/
abbrev XI : Type := Bool × Bool × Fin 6
/-- A cell of the ring: the barrier or a transfer's. -/
abbrev CI : Type := Option XI

def xsem (x : XI) : DmaSem sig := if x.1 then recvS x.2.1 x.2.2 else sendS x.2.1 x.2.2
def csem : CI → SemLoc sig
  | none => .reg barS
  | some x => .dma (xsem x)

theorem xsem_injective : Function.Injective xsem := by
  have h : ∀ x y : XI, xsem x = xsem y → x = y := by decide +kernel
  exact fun x y => h x y
theorem csem_injective : Function.Injective csem := by
  intro x y h
  rcases x with _ | x <;> rcases y with _ | y
  · rfl
  · cases h
  · cases h
  · exact congrArg some (xsem_injective (SemLoc.dma.inj h))

open Classical in
/-- The ring's cell a semaphore is, if it is one. -/
def decS (s : SemLoc sig) : Option CI := if h : ∃ x, csem x = s then some h.choose else none
theorem decS_csem (x : CI) : decS (csem x) = some x := by
  unfold decS
  have h : ∃ y, csem y = csem x := ⟨x, rfl⟩
  rw [dif_pos h, csem_injective h.choose_spec]
theorem decS_none (s : SemLoc sig) (h : ∀ x, csem x ≠ s) : decS s = none := by
  unfold decS
  exact dif_neg fun ⟨x, hx⟩ => h x hx

abbrev kcell (ck : Dev nD × CI) : GSem nD τ sig := ((ck.1 : Thread nD τ), csem ck.2)
abbrev barCell (c : Dev nD) : GSem nD τ sig := ((c : Thread nD τ), .reg barS)
abbrev sendCell (l : Bool) (t : Fin 6) (c : Dev nD) : GSem nD τ sig := ((c : Thread nD τ), .dma (sendS l t))
abbrev recvCell (l : Bool) (t : Fin 6) (c : Dev nD) : GSem nD τ sig := ((c : Thread nD τ), .dma (recvS l t))

theorem decS_bar : decS (SemLoc.reg barS) = some none := decS_csem none
theorem decS_send (l : Bool) (t : Fin 6) : decS (SemLoc.dma (sendS l t)) = some (some (false, l, t)) := decS_csem (some (false, l, t))
theorem decS_recv (l : Bool) (t : Fin 6) : decS (SemLoc.dma (recvS l t)) = some (some (true, l, t)) := decS_csem (some (true, l, t))

/-! ## The transfers -/

/-- What hop `t` of a direction is sent from. -/
def srcM (l : Bool) : Fin 6 → Memref sig .tc .vmem S256x1024 .bf16
  | 4 => slotM l 3
  | 5 => slotM l 4
  | _ => stageM l

/-- A hop's credit. -/
def N : ℕ := (slotM false 0).view.dmaCredit
theorem N_pos : 0 < N := View.dmaCredit_pos _ (by decide)
theorem slot_credit (l : Bool) (t : Fin 6) : (slotM l t).view.dmaCredit = N := by
  cases l <;> rfl
theorem stage_credit (l : Bool) : (stageM l).view.dmaCredit = N := by
  cases l <;> rfl
theorem src_credit (l : Bool) (t : Fin 6) : (srcM l t).view.dmaCredit = N := by
  revert l t
  intro l t
  fin_cases t
  · exact stage_credit l
  · exact stage_credit l
  · exact stage_credit l
  · exact stage_credit l
  · exact slot_credit l 3
  · exact slot_credit l 4

/-- A slot of a device's communication buffer at given contents of the buffer. -/
def slotPts (l : Bool) (t : Fin 6) (c : Dev nD) (f : Buf (Elt F) ((slotM l t).view.loc (c : Thread nD τ))) : sProp 𝕄 :=
  (slotM l t).view.loc (c : Thread nD τ) ↦[(slotM l t).view.set]{fullShare} f

/-! ## The schedule -/

/-- What a neighbour's barrier signal hands over: all six slots of the communication buffer this device sends into. -/
def barPay (c : Dev nD) (d : Bool) : sProp 𝕄 := bigSep Finset.univ fun t : Fin 6 => iprop(∃ f, slotPts (F := F) (!d) t (dst (!d) c) f)
/-- What a completed arrival hands over: the slot holding what the neighbour sent. -/
def recvPay (c : Dev nD) (l : Bool) (t : Fin 6) : sProp 𝕄 := owns (c : Thread nD τ) (slotM l t) fullShare (sent m l t.val (src l c))
/-- What a completed departure hands back: what was sent from. -/
def sendPay (c : Dev nD) (l : Bool) (t : Fin 6) : sProp 𝕄 := owns (c : Thread nD τ) (srcM l t) fullShare (sent m l t.val c)

/-- The duties of a cell's only round. -/
def dutiesOf : Option CI → Finset Bool
  | some none => Finset.univ
  | some (some _) => {false}
  | none => ∅
/-- The units a duty brings. -/
def amountOf : Option CI → ℕ
  | some none => 1
  | _ => N
/-- What a duty hands over. -/
def payOf (c : Dev nD) (d : Bool) : Option CI → sProp 𝕄
  | some none => barPay (F := F) c d
  | some (some (true, l, t)) => recvPay m c l t
  | some (some (false, l, t)) => sendPay m c l t
  | none => iprop(emp)

instance barPay_storable (c : Dev nD) (d : Bool) : BI.Storable (upEmb : UEmb _ 𝕄) (barPay (F := F) c d) := by
  unfold barPay slotPts; infer_instance
instance recvPay_storable (c : Dev nD) (l : Bool) (t : Fin 6) : BI.Storable (upEmb : UEmb _ 𝕄) (recvPay (F := F) m c l t) := by
  unfold recvPay; infer_instance
instance sendPay_storable (c : Dev nD) (l : Bool) (t : Fin 6) : BI.Storable (upEmb : UEmb _ 𝕄) (sendPay (F := F) m c l t) := by
  unfold sendPay; infer_instance

/-- One round: two duties of one unit on a barrier cell, one duty of a hop's credit on a transfer's cell. -/
def ringRd : Rounds.Schedule (GSem nD τ sig) Bool 𝕄 where
  duties g r := if r = 0 ∧ g.1.2 = .tc then dutiesOf (decS g.2) else ∅
  unitless _ := False
  amount g _ _ := amountOf (decS g.2)
  payload g _ d := payOf m g.1.1 d (decS g.2)
  amount_pos g _ _ _ := by
    unfold amountOf
    split
    · exact Nat.one_pos
    · exact N_pos

instance ringRd_payload_storable (g : GSem nD τ sig) (r : ℕ) (d : Bool) :
    BI.Storable (upEmb : UEmb _ 𝕄) ((ringRd (F := F) m).payload g r d) := by
  show BI.Storable upEmb (payOf m g.1.1 d (decS g.2))
  unfold payOf
  split <;> infer_instance

section Sched
variable (c : Dev nD) (l : Bool) (t : Fin 6)

theorem duties_bar : (ringRd (F := F) m).duties (barCell c) 0 = Finset.univ := by
  dsimp only [ringRd]; rw [if_pos ⟨rfl, rfl⟩, decS_bar]; rfl
theorem duties_send : (ringRd (F := F) m).duties (sendCell l t c) 0 = {false} := by
  dsimp only [ringRd]; rw [if_pos ⟨rfl, rfl⟩, decS_send]; rfl
theorem duties_recv : (ringRd (F := F) m).duties (recvCell l t c) 0 = {false} := by
  dsimp only [ringRd]; rw [if_pos ⟨rfl, rfl⟩, decS_recv]; rfl
theorem duties_later (g : GSem nD τ sig) : ∀ r, 1 ≤ r → (ringRd (F := F) m).duties g r = ∅ :=
  fun r hr => by dsimp only [ringRd]; rw [if_neg fun h => by omega]

theorem amount_bar (d : Bool) : (ringRd (F := F) m).amount (barCell c) 0 d = 1 := by dsimp only [ringRd]; rw [decS_bar]; rfl
theorem amount_send (d : Bool) : (ringRd (F := F) m).amount (sendCell l t c) 0 d = N := by dsimp only [ringRd]; rw [decS_send]; rfl
theorem amount_recv (d : Bool) : (ringRd (F := F) m).amount (recvCell l t c) 0 d = N := by dsimp only [ringRd]; rw [decS_recv]; rfl

theorem expect_bar : (ringRd (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_send : (ringRd (F := F) m).expect (sendCell l t c) 0 = N := by
  unfold Schedule.expect Schedule.amountOf; rw [duties_send, Finset.sum_singleton, amount_send]
theorem expect_recv : (ringRd (F := F) m).expect (recvCell l t c) 0 = N := by
  unfold Schedule.expect Schedule.amountOf; rw [duties_recv, Finset.sum_singleton, amount_recv]

theorem payload_bar (d : Bool) : (ringRd (F := F) m).payload (barCell c) 0 d = barPay c d := by dsimp only [ringRd]; rw [decS_bar]; rfl
theorem payload_send (d : Bool) : (ringRd (F := F) m).payload (sendCell l t c) 0 d = sendPay m c l t := by dsimp only [ringRd]; rw [decS_send]; rfl
theorem payload_recv (d : Bool) : (ringRd (F := F) m).payload (recvCell l t c) 0 d = recvPay m c l t := by dsimp only [ringRd]; rw [decS_recv]; rfl

theorem rest_bar : bigSep ((ringRd (F := F) m).duties (barCell c) 0 \ ∅) (fun d => (ringRd (F := F) m).payload (barCell c) 0 d)
    = iprop(barPay c false ∗ barPay c true) := by
  rw [Finset.sdiff_empty, duties_bar, bigSep_univ_eq_bigSepL [false, true] (by decide) (by decide), bigSepL_cons_cons, bigSepL_singleton,
    payload_bar, payload_bar]
  rfl
theorem rest_send : bigSep ((ringRd (F := F) m).duties (sendCell l t c) 0 \ ∅) (fun d => (ringRd (F := F) m).payload (sendCell l t c) 0 d) = sendPay m c l t := by
  rw [Finset.sdiff_empty, duties_send, bigSep_singleton, payload_send]
theorem rest_recv : bigSep ((ringRd (F := F) m).duties (recvCell l t c) 0 \ ∅) (fun d => (ringRd (F := F) m).payload (recvCell l t c) 0 d) = recvPay m c l t := by
  rw [Finset.sdiff_empty, duties_recv, bigSep_singleton, payload_recv]

end Sched

/-! ## What each device owes; the levels -/

/-- Hop `n` counted from the last: `hop 0` is the last hop. -/
def hop (k : ℕ) : Fin 6 := ⟨(5 - k) % 6, Nat.mod_lt _ (by decide)⟩

/-- What a device still owes when `k` hops remain: both neighbours' receive cells of those hops. -/
def Orem (c : Dev nD) : ℕ → CellTallies nD τ sig Unit
  | 0 => 0
  | k + 1 => (Orem c k + tallyAt (recvCell true (hop k) (dst true c)) () N) + tallyAt (recvCell false (hop k) (dst false c)) () N
/-- What it owes once one neighbour was signalled, -/
def O₁ (c : Dev nD) : CellTallies nD τ sig Unit := Orem c 6 + tallyAt (barCell (nxt c)) () 1
/-- and at launch. -/
def O₀ (c : Dev nD) : CellTallies nD τ sig Unit := O₁ c + tallyAt (barCell (prv c)) () 1

def L (g : GSem nD τ sig) : Finset Unit := if g.1.2 = .tc then {()} else ∅
/-- The level of a cell: a barrier's 1, a receive cell's 2 and its hop, every other's 0. -/
def lvOf : Option CI → ℕ
  | some none => 1
  | some (some (true, _, t)) => 2 + t.val
  | _ => 0
def lv (g : GSem nD τ sig) (_ : Unit) : ℕ := lvOf (decS g.2)

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by unfold lv; rw [decS_bar]; rfl
theorem lv_send (l : Bool) (t : Fin 6) (c : Dev nD) : lv (sendCell l t c) () = 0 := by unfold lv; rw [decS_send]; rfl
theorem lv_recv (l : Bool) (t : Fin 6) (c : Dev nD) : lv (recvCell l t c) () = 2 + t.val := by unfold lv; rw [decS_recv]; rfl

theorem two_pos {D : CellTallies nD τ sig Unit} {g₁ g₂ g : GSem nD τ sig} {n₁ n₂ : ℕ} {u : Unit}
    (h : 0 < ((D + tallyAt g₁ () n₁) + tallyAt g₂ () n₂) g u) : 0 < D g u ∨ g = g₁ ∨ g = g₂ := by
  rw [Pi.add_apply, Finsupp.add_apply, Pi.add_apply, Finsupp.add_apply, tallyAt_apply, tallyAt_apply] at h
  by_cases h1 : g = g₁
  · exact .inr (.inl h1)
  by_cases h2 : g = g₂
  · exact .inr (.inr h2)
  rw [if_neg (fun h' => h1 h'.1), if_neg (fun h' => h2 h'.1)] at h
  exact .inl h

theorem Orem_pos {c : Dev nD} {k : ℕ} {g : GSem nD τ sig} {u : Unit} (hk : k ≤ 6) (h : 0 < Orem c k g u) :
    ∃ l t, 6 ≤ t.val + k ∧ g = recvCell l t (dst l c) := by
  induction k with
  | zero => exact absurd h (Nat.lt_irrefl 0)
  | succ k ih =>
    have ht : (hop k).val = 5 - k := Nat.mod_eq_of_lt (by omega)
    unfold Orem at h
    rcases two_pos h with h | h | h
    · obtain ⟨l, t, ht', hg⟩ := ih (by omega) h
      exact ⟨l, t, by omega, hg⟩
    · exact ⟨true, hop k, by omega, h⟩
    · exact ⟨false, hop k, by omega, h⟩

theorem O₀_pos {c : Dev nD} {g : GSem nD τ sig} {u : Unit} (h : 0 < O₀ c g u) :
    (∃ l t, g = recvCell l t (dst l c)) ∨ g = barCell (nxt c) ∨ g = barCell (prv c) := by
  unfold O₀ O₁ at h
  rcases two_pos h with h | h
  · obtain ⟨l, t, -, hg⟩ := Orem_pos (le_refl 6) h
    exact .inl ⟨l, t, hg⟩
  · exact .inr h

/-- A wait on a cell of level at most `b` is allowed while everything owed is above `b`. -/
theorem mayWait_cut (c : Dev nD) (sm : SemLoc sig) (b : ℕ) (O : CellTallies nD τ sig Unit) (hsm : lv ((c : Thread nD τ), sm) () ≤ b)
    (hO : ∀ (g : GSem nD τ sig) (u : Unit), 0 < O g u → g.1.2 = .tc ∧ b < lv g u) :
    (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hsm)
    (fun g u hg => (hO g u hg).2)

theorem lv_low (c : Dev nD) (q : DmaSem sig) (hq : ∀ l t, q ≠ recvS l t) : lv ((c : Thread nD τ), .dma q) () = 0 := by
  unfold lv lvOf
  split
  · rename_i h
    exfalso
    dsimp only at h
    unfold decS at h
    split at h
    · rename_i hx
      have := hx.choose_spec
      rw [Option.some.inj h] at this
      cases this
    · cases h
  · rename_i l t h
    exfalso
    dsimp only at h
    unfold decS at h
    split at h
    · rename_i hx
      have := hx.choose_spec
      rw [Option.some.inj h] at this
      exact hq l t (SemLoc.dma.inj this).symm
    · cases h
  · rfl

/-- A wait on a copy's or a departure's semaphore is allowed at any moment before the exchange. -/
theorem mayWait_low (c : Dev nD) (q : DmaSem sig) (hq : ∀ l t, q ≠ recvS l t) (O : CellTallies nD τ sig Unit) (hO : O = O₀ c ∨ O = 0) :
    (levAts L lv : sProp 𝕄) ⊢ MayWait (c : Thread nD τ) (.dma q) () O := by
  rcases hO with rfl | rfl
  · refine mayWait_cut c _ 0 _ (lv_low c q hq).le fun g u hg => ?_
    rcases O₀_pos hg with ⟨l, t, rfl⟩ | rfl | rfl
    · exact ⟨rfl, by rw [lv_recv]; omega⟩
    · exact ⟨rfl, by rw [lv_bar]; exact Nat.one_pos⟩
    · exact ⟨rfl, by rw [lv_bar]; exact Nat.one_pos⟩
  · rw [MayWait_zero]; iintro -; iempintro
/-- At the barrier's wait only receive credits are owed. -/
theorem mayWait_bar (c : Dev nD) : (levAts L lv : sProp 𝕄) ⊢ MayWait (c : Thread nD τ) (.reg barS) () (Orem c 6) :=
  mayWait_cut c _ 1 _ (lv_bar c).le fun g u hg => by
    obtain ⟨l, t, -, rfl⟩ := Orem_pos (le_refl 6) hg
    exact ⟨rfl, by rw [lv_recv]; omega⟩
/-- During hop `t` only later hops' receive credits are owed. -/
theorem mayWait_send (c : Dev nD) (l : Bool) (t : Fin 6) (k : ℕ) (hk : k ≤ 6) :
    (levAts L lv : sProp 𝕄) ⊢ MayWait (c : Thread nD τ) (.dma (sendS l t)) () (Orem c k) :=
  mayWait_cut c _ 0 _ (lv_send l t c).le fun g u hg => by
    obtain ⟨l, t, -, rfl⟩ := Orem_pos hk hg
    exact ⟨rfl, by rw [lv_recv]; omega⟩
theorem mayWait_recv (c : Dev nD) (l : Bool) (t : Fin 6) (k : ℕ) (hk : t.val + k ≤ 5) :
    (levAts L lv : sProp 𝕄) ⊢ MayWait (c : Thread nD τ) (.dma (recvS l t)) () (Orem c k) :=
  mayWait_cut c _ (2 + t.val) _ (lv_recv l t c).le fun g u hg => by
    obtain ⟨l', t', ht, rfl⟩ := Orem_pos (by omega) hg
    exact ⟨rfl, by rw [lv_recv]; omega⟩

/-! ## The ring's resources on one device -/

/-- The cells' invariants and the marks that each cell has reached its round, under the names the launch gave them. -/
def records (K : Dev nD × CI → ℕ) : sProp 𝕄 :=
  bigSep Finset.univ fun ck : Dev nD × CI => iprop(cellInv ER (ringRd m) (K ck) (kcell ck) ∗ reached ER (kcell ck) 0)
instance records_persistent (K : Dev nD × CI → ℕ) : BI.Persistent (records m K) := by unfold records; infer_instance

theorem records_at (K : Dev nD × CI → ℕ) (ck : Dev nD × CI) :
    records m K ⊢ iprop(cellInv ER (ringRd m) (K ck) (kcell ck) ∗ reached ER (kcell ck) 0) := by
  unfold records
  exact bigSep_elim (Finset.mem_univ ck)

/-- What a device's transfer of hop `t` in a direction needs: its places in its own two cells, the tokens of the two duties
    it pays, and the credit its arrival brings. -/
def hopRes (c : Dev nD) (l : Bool) (t : Fin 6) : sProp 𝕄 :=
  iprop(atPos ER (sendCell l t c) 0 ∅ 0 ∗ atPos ER (recvCell l t c) 0 ∅ 0
    ∗ dutyTok ER (sendCell l t c) 0 false ∗ dutyTok ER (recvCell l t (dst l c)) 0 false ∗ cred (tallyAt (recvCell l t c) () N))
/-- What is left of it after the hop: the two semaphores at zero. -/
def hopDone (c : Dev nD) (l : Bool) (t : Fin 6) : sProp 𝕄 :=
  iprop(semVal (sendCell l t c) 0 ∗ semVal (recvCell l t c) 0)
/-- What the barrier needs: the place in the own cell, the two duties paid, the credit of two units. -/
def barRes (c : Dev nD) : sProp 𝕄 :=
  iprop(atPos ER (barCell c) 0 ∅ 0 ∗ dutyTok ER (barCell (prv c)) 0 true ∗ dutyTok ER (barCell (nxt c)) 0 false ∗ cred (tallyAt (barCell c) () 2))

end Cert.KernelIdeal.Own

end
-- ==== Proof.KernelIdealRing.lean ====
/-
  The exchange, piece by piece.

  Each piece of the last grid point — a row block staged, added or replaced, one hop of both directions, the handshake —
  is run once, at a variable device, direction and hop, against the contents `ch` and `ag`; `last_spec` runs them in order.
-/
module

public import proofs.«01_k».proof.Proof.KernelIdealSched

@[expose] public section

set_option maxRecDepth 16384

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## The result buffer by row blocks -/

/-- One block's contents replaced. -/
def upd (g : Bool → Dev nD → Vec F S256x1024 .f32) (l : Bool) (j : Dev nD) (w : Vec F S256x1024 .f32) :
    Bool → Dev nD → Vec F S256x1024 .f32 := fun l' j' => if l' = l ∧ j' = j then w else g l' j'

theorem rows_disjoint {l l' : Bool} {j j' : Dev nD} (h : ¬ (l' = l ∧ j' = j)) :
    Disjoint (rowsR (chunkO l' j') (chunk_inb l' j')).set (rowsR (chunkO l j) (chunk_inb l j)).set := by
  rw [Finset.disjoint_left]
  intro i hi hi'
  obtain ⟨k, hk, e⟩ := (LoadRect.mem_set _).mp hi 0
  obtain ⟨k', hk', e'⟩ := (LoadRect.mem_set _).mp hi' 0
  change k < 256 at hk
  change k' < 256 at hk'
  change (i 0).val = ((if l' then 1024 else 0) + 256 * j'.val) + 1 * k at e
  change (i 0).val = ((if l then 1024 else 0) + 256 * j.val) + 1 * k' at e'
  have hj : j.val < 4 := j.isLt
  have hj' : j'.val < 4 := j'.isLt
  refine h ⟨?_, ?_⟩
  · cases l <;> cases l' <;> simp only [if_true, if_false, Bool.false_eq_true] at e e' <;> first | rfl | (exfalso; omega)
  · apply Fin.ext
    cases l <;> cases l' <;> simp only [if_true, if_false, Bool.false_eq_true] at e e' <;> omega

theorem rows_set (r : Rect S2048x1024) : (outM.view.slice r).set = r.set := View.set_slice_whole cc0_stg3_0 r

omit [FloatOps F] in
theorem holds_write {f : Vec F S2048x1024 .f32} {g : Bool → Dev nD → Vec F S256x1024 .f32} (hf : Holds f g) (l : Bool) (j : Dev nD)
    (w : Vec F S256x1024 .f32) :
    Holds ((outM.access (rowsR (chunkO l j) (chunk_inb l j)) : View sig .tc _ _ _).write (Elt F) f w Finset.univ) (upd g l j w) := by
  intro l' j'
  unfold upd
  by_cases h : l' = l ∧ j' = j
  · rw [if_pos h]
    obtain ⟨rfl, rfl⟩ := h
    show (outM.view.slice (rowsR (chunkO l' j') (chunk_inb l' j'))).read (Elt F) _ = w
    exact View.read_write_univ (v := outM.view.slice (rowsR (chunkO l' j') (chunk_inb l' j'))) f w
  · rw [if_neg h, ← hf l' j']
    refine View.read_slice_write_slice_of_disjoint (v := outM.view) (rowsR (chunkO l' j') (chunk_inb l' j')) (rowsR (chunkO l j) (chunk_inb l j)) f w Finset.univ ?_
    rw [View.setOn_univ, rows_set, rows_set]
    exact rows_disjoint h

/-- The result buffer held by device `c`, its blocks' contents given. -/
def outIs (c : Dev nD) (g : Bool → Dev nD → Vec F S256x1024 .f32) : sProp 𝕄 :=
  iprop(∃ f : Buf (Elt F) ((c : Thread nD τ).loc cc0_stg3_0), ⌜Holds (F := F) f g⌝ ∗ (((c : Thread nD τ).loc cc0_stg3_0) ↦{fullShare} f))

section Wp
variable {α : Type} {Q : α → sProp (MT nD τ sig Unit (Elt F) ℕ UU ℕ)} (c : Dev nD)

/-- A row block loaded. -/
theorem wp_load_rows (g : Bool → Dev nD → Vec F S256x1024 .f32) (l : Bool) (j : Dev nD) (o : Fin 2 → Nat)
    (h : ∀ a, o a + S256x1024.size a ≤ S2048x1024.size a) (ho : o = chunkO l j) {hl : outM.view.LoadsAt (rowsR o h).toLoadRect}
    {k : Vec F S256x1024 .f32 → Prog (TpuEff nD τ sig (Elt F) Λ₀ .tc) α} :
    outIs c g ⊢ iprop((outIs c g -∗ wp frame (wpE (defs₀ (F := F)) 𝒱₀ (c : Thread nD τ) none) Set.univ (k (g l j)) Q)
      -∗ wp frame (wpE (defs₀ (F := F)) 𝒱₀ (c : Thread nD τ) none) Set.univ (.op (.load outM (rowsR o h).toLoadRect hl) k) Q) := by
  subst ho
  unfold outIs
  iintro ⟨%f, %hf, H⟩ Hk
  iapply (wp_load 𝒱₀ (c : Thread nD τ) none Set.univ (m := outM) (Finset.subset_univ _)) $$ H
  iintro H
  rw [show outM.view.readAt (Elt F) (rowsR (chunkO l j) h).toLoadRect f = g l j from hf l j]
  iapply Hk
  iexists f
  isplitr; · ipureintro; exact hf
  iexact H

/-- A row block stored. -/
theorem wp_store_rows (g : Bool → Dev nD → Vec F S256x1024 .f32) (l : Bool) (j : Dev nD) (o : Fin 2 → Nat)
    (h : ∀ a, o a + S256x1024.size a ≤ S2048x1024.size a) (ho : o = chunkO l j) (w : Vec F S256x1024 .f32)
    {hx : (outM.access (rowsR o h)).Stores Finset.univ} {hm : (Finset.univ : Finset (rowsR o h).shape.Idx) = Finset.univ ∨ ∀ a, (rowsR o h).stride a = 1}
    {k : PUnit → Prog (TpuEff nD τ sig (Elt F) Λ₀ .tc) α} :
    outIs c g ⊢ iprop((outIs c (upd g l j w) -∗ wp frame (wpE (defs₀ (F := F)) 𝒱₀ (c : Thread nD τ) none) Set.univ (k ⟨⟩) Q)
      -∗ wp frame (wpE (defs₀ (F := F)) 𝒱₀ (c : Thread nD τ) none) Set.univ (.op (.store outM (rowsR o h) w Finset.univ hx hm) k) Q) := by
  subst ho
  unfold outIs
  iintro ⟨%f, %hf, H⟩ Hk
  iapply (wp_store 𝒱₀ (c : Thread nD τ) none Set.univ (m := outM) (r := rowsR (chunkO l j) h) (Mk := Finset.univ) (Finset.subset_univ _)) $$ H
  iintro H
  iapply Hk
  iexists _
  isplitr
  · ipureintro; exact holds_write hf l j w
  iexact H

/-! ## The slots and the staging buffers -/

omit [FloatOps F] in
theorem slot_set (l : Bool) (t : Fin 6) : (commM l).view.setOn (slotRect t).toLoadRect.set = (slotM l t).view.set := by
  show _ = (((commM l).slice (slotRect t) (fun _ => rfl)).view.reshape S256x1024 squeezes_S1x256x1024_S256x1024.numel_eq).set
  rw [View.set_reshape]
  exact (View.set_slice _ _).symm

/-- A slot of a communication buffer loaded. -/
theorem wp_load_slot (l : Bool) (t : Fin 6) (X : Vec F S256x1024 .bf16) {hl : (commM l).view.LoadsAt (slotRect t).toLoadRect}
    {k : Vec F S1x256x1024 .bf16 → Prog (TpuEff nD τ sig (Elt F) Λ₀ .tc) α} :
    (owns (c : Thread nD τ) (slotM l t) fullShare X : sProp 𝕄)
      ⊢ iprop((owns (c : Thread nD τ) (slotM l t) fullShare X -∗ wp frame (wpE (defs₀ (F := F)) 𝒱₀ (c : Thread nD τ) none) Set.univ (k (lift X)) Q)
      -∗ wp frame (wpE (defs₀ (F := F)) 𝒱₀ (c : Thread nD τ) none) Set.univ (.op (.load (commM l) (slotRect t).toLoadRect hl) k) Q) := by
  unfold owns
  iintro ⟨%f, %hf, H⟩ Hk
  iapply (wp_load 𝒱₀ (c : Thread nD τ) none Set.univ (m := commM l) (S := (slotM l t).view.set) (f := f) (slot_set l t).subset) $$ H
  iintro H
  rw [readAt_slot l t f, hf]
  iapply Hk
  iexists f
  isplitr; · ipureintro; exact hf
  iexact H

theorem hz2 : (![0, 0] : Fin 2 → Nat) = fun _ => 0 := funext fun a => by fin_cases a <;> rfl
theorem hz3 : (![0, 0, 0] : Fin 3 → Nat) = fun _ => 0 := funext fun a => by fin_cases a <;> rfl

omit [FloatOps F] in
theorem stage_set (l : Bool) : (stageM l).view.set = Finset.univ := by cases l <;> exact View.set_whole _
omit [FloatOps F] in
theorem stage_write (l : Bool) (f : (stageM l).view.ref.ty.Contents (Elt F)) (w : Vec F S256x1024 .bf16) :
    (stageM l).view.read (Elt F) (((stageM l).access stgR).write (Elt F) f w Finset.univ) = w := by
  cases l
  · exact (congrArg _ (Memref.write_access_unit_zero_univ (Elt F) cc0_scratch7 hz2 _ f w)).trans (View.read_whole _ _)
  · exact (congrArg _ (Memref.write_access_unit_zero_univ (Elt F) cc0_scratch8 hz2 _ f w)).trans (View.read_whole _ _)

/-- A staging buffer held at some contents, loaded and stored. -/
theorem wp_stage (l : Bool) (w : Vec F S256x1024 .bf16) {hl : (stageM l).view.LoadsAt stgR.toLoadRect}
    {hx : ((stageM l).access stgR).Stores Finset.univ} {hm : (Finset.univ : Finset stgR.shape.Idx) = Finset.univ ∨ ∀ a, stgR.stride a = 1}
    {k : PUnit → Prog (TpuEff nD τ sig (Elt F) Λ₀ .tc) α} :
    (iprop(∃ X, owns (c : Thread nD τ) (stageM l) fullShare X) : sProp 𝕄)
      ⊢ iprop((owns (c : Thread nD τ) (stageM l) fullShare w -∗ wp frame (wpE (defs₀ (F := F)) 𝒱₀ (c : Thread nD τ) none) Set.univ (k ⟨⟩) Q)
      -∗ wp frame (wpE (defs₀ (F := F)) 𝒱₀ (c : Thread nD τ) none) Set.univ
          (.op (.load (stageM l) stgR.toLoadRect hl) fun _ => .op (.store (stageM l) stgR w Finset.univ hx hm) k) Q) := by
  unfold owns
  iintro ⟨%X, %f, %hf, H⟩ Hk
  iapply (wp_load 𝒱₀ (c : Thread nD τ) none Set.univ (m := stageM l) (S := (stageM l).view.set) (f := f) (by rw [stage_set]; exact Finset.subset_univ _)) $$ H
  iintro H
  iapply (wp_store 𝒱₀ (c : Thread nD τ) none Set.univ (m := stageM l) (r := stgR) (Mk := Finset.univ) (S := (stageM l).view.set) (f := f) (by rw [stage_set]; exact Finset.subset_univ _)) $$ H
  iintro H
  iapply Hk
  iexists _
  isplitr; · ipureintro; exact stage_write l f w
  iexact H

end Wp

omit [FloatOps F] in
theorem read_ctx (f : Vec F S2048x1024 .bf16) :
    ctxM.view.readAt (Elt F) (Rect.unit (s := S2048x1024) ![0, 0] S2048x1024.size inb_S2048x1024_S2048x1024_0_0).toLoadRect f = f :=
  Memref.readAt_unit_zero (Elt F) cc0_scratch1 hz2 _ f
omit [FloatOps F] in
theorem read_wo (f : Vec F S1024x1024 .f32) :
    woM.view.readAt (Elt F) (Rect.unit (s := S1024x1024) ![0, 0] S1024x1024.size inb_S1024x1024_S1024x1024_0_0).toLoadRect f = f :=
  Memref.readAt_unit_zero (Elt F) cc0_stg2_0 hz2 _ f
omit [FloatOps F] in
theorem write_outM (f w : Vec F S2048x1024 .f32) :
    (outM.access (Rect.unit (s := S2048x1024) ![0, 0] S2048x1024.size inb_S2048x1024_S2048x1024_0_0) : View sig .tc _ _ _).write (Elt F) f w Finset.univ = w :=
  Memref.write_access_unit_zero_univ (Elt F) cc0_stg3_0 hz2 _ f w

section Pieces
variable (c : Dev nD) {Q : PUnit → sProp (MT nD τ sig Unit (Elt F) ℕ UU ℕ)}

/-- A row block rounded into a staging buffer. -/
theorem stage_spec (g : Bool → Dev nD → Vec F S256x1024 .f32) (l : Bool) (j : Dev nD) (o : Fin 2 → Nat)
    (h : ∀ a, o a + S256x1024.size a ≤ S2048x1024.size a) (ho : o = chunkO l j) :
    iprop(outIs c g ∗ (∃ X, owns (c : Thread nD τ) (stageM l) fullShare X)
      ∗ ((outIs c g ∗ owns (c : Thread nD τ) (stageM l) fullShare (k0_pay2 (g l j))) -∗ Q ⟨⟩))
      ⊢ wp frame (wpE (defs₀ (F := F)) 𝒱₀ (c : Thread nD τ) none) Set.univ (stageP l o h) Q := by
  unfold stageP
  simp only [Prog.lift, Prog.bind_op, Prog.bind_ret, Prog.pure_eq_ret]
  iintro ⟨Ho, Hs, Hk⟩
  iapply (wp_load_rows c g l j o h ho) $$ Ho; iintro Ho
  iapply (wp_stage c l (k0_pay2 (g l j))) $$ Hs; iintro Hs
  rw [wp_ret]; imodintro
  iapply Hk
  isplitl [Ho] <;> iassumption

/-- A row block added what arrived. -/
theorem add_spec (g : Bool → Dev nD → Vec F S256x1024 .f32) (l : Bool) (t : Fin 6) (X : Vec F S256x1024 .bf16) (j : Dev nD) (o : Fin 2 → Nat)
    (h : ∀ a, o a + S256x1024.size a ≤ S2048x1024.size a) (ho : o = chunkO l j) :
    iprop(outIs c g ∗ owns (c : Thread nD τ) (slotM l t) fullShare X
      ∗ ((outIs c (upd g l j (k0_pay4 (g l j) (lift X))) ∗ owns (c : Thread nD τ) (slotM l t) fullShare X) -∗ Q ⟨⟩))
      ⊢ wp frame (wpE (defs₀ (F := F)) 𝒱₀ (c : Thread nD τ) none) Set.univ (addP l t o h) Q := by
  unfold addP
  simp only [Prog.lift, Prog.bind_op, Prog.bind_ret, Prog.pure_eq_ret]
  iintro ⟨Ho, Hs, Hk⟩
  iapply (wp_load_rows c g l j o h ho) $$ Ho; iintro Ho
  iapply (wp_load_slot c l t X) $$ Hs; iintro Hs
  iapply (wp_load_rows c g l j o h ho) $$ Ho; iintro Ho
  iapply (wp_store_rows c g l j o h ho) $$ Ho; iintro Ho
  rw [wp_ret]; imodintro
  iapply Hk
  isplitl [Ho] <;> iassumption

/-- A row block replaced by what arrived. -/
theorem put_spec (g : Bool → Dev nD → Vec F S256x1024 .f32) (l : Bool) (t : Fin 6) (X : Vec F S256x1024 .bf16) (j : Dev nD) (o : Fin 2 → Nat)
    (h : ∀ a, o a + S256x1024.size a ≤ S2048x1024.size a) (ho : o = chunkO l j) :
    iprop(outIs c g ∗ owns (c : Thread nD τ) (slotM l t) fullShare X
      ∗ ((outIs c (upd g l j (k0_pay19 (lift X))) ∗ owns (c : Thread nD τ) (slotM l t) fullShare X) -∗ Q ⟨⟩))
      ⊢ wp frame (wpE (defs₀ (F := F)) 𝒱₀ (c : Thread nD τ) none) Set.univ (putP l t o h) Q := by
  unfold putP
  simp only [Prog.lift, Prog.bind_op, Prog.bind_ret, Prog.pure_eq_ret]
  iintro ⟨Ho, Hs, Hk⟩
  iapply (wp_load_slot c l t X) $$ Hs; iintro Hs
  iapply (wp_load_rows c g l j o h ho) $$ Ho; iintro Ho
  iapply (wp_store_rows c g l j o h ho) $$ Ho; iintro Ho
  rw [wp_ret]; imodintro
  iapply Hk
  isplitl [Ho] <;> iassumption

/-- The projection stored. -/
theorem proj_spec (f : Buf (Elt F) ((c : Thread nD τ).loc cc0_scratch1)) (wo : Buf (Elt F) ((c : Thread nD τ).loc cc0_stg2_0)) :
    iprop((((c : Thread nD τ).loc cc0_scratch1) ↦{fullShare} f) ∗ (((c : Thread nD τ).loc cc0_stg2_0) ↦{fullShare} wo)
      ∗ (∃ f : Buf (Elt F) ((c : Thread nD τ).loc cc0_stg3_0), ((c : Thread nD τ).loc cc0_stg3_0) ↦{fullShare} f)
      ∗ (((((c : Thread nD τ).loc cc0_scratch1) ↦{fullShare} f) ∗ (((c : Thread nD τ).loc cc0_stg2_0) ↦{fullShare} wo)
        ∗ (((c : Thread nD τ).loc cc0_stg3_0) ↦{fullShare} (k0_pay1 (F := F) f wo : Vec F S2048x1024 .f32))) -∗ Q ⟨⟩))
      ⊢ wp frame (wpE (defs₀ (F := F)) 𝒱₀ (c : Thread nD τ) none) Set.univ (projP (F := F)) Q := by
  unfold projP
  simp only [Prog.lift, Prog.bind_op, Prog.bind_ret, Prog.pure_eq_ret]
  iintro ⟨Hc, Hw, ⟨%g, Ho⟩, Hk⟩
  iapply (wp_load 𝒱₀ (c : Thread nD τ) none Set.univ (m := ctxM) (Finset.subset_univ _)) $$ Hc; iintro Hc
  rw [read_ctx]
  iapply (wp_load 𝒱₀ (c : Thread nD τ) none Set.univ (m := woM) (Finset.subset_univ _)) $$ Hw; iintro Hw
  rw [read_wo]
  iapply (wp_load 𝒱₀ (c : Thread nD τ) none Set.univ (m := outM) (Finset.subset_univ _)) $$ Ho; iintro Ho
  iapply (wp_store 𝒱₀ (c : Thread nD τ) none Set.univ (m := outM) (r := Rect.unit (s := S2048x1024) ![0, 0] S2048x1024.size inb_S2048x1024_S2048x1024_0_0) (Mk := Finset.univ) (Finset.subset_univ _)) $$ Ho; iintro Ho
  rw [write_outM, wp_ret]; imodintro
  iapply Hk
  isplitl [Hc]; · iexact Hc
  isplitl [Hw] <;> iassumption

end Pieces

end Cert.KernelIdeal.Own

end
-- ==== Proof.KernelIdealHops.lean ====
/-
  The handshake and the six hops.

  One direction's transfer and its waits are run once, at a variable hop (`wp_send_hop`, `wp_wait_send`, `wp_wait_recv`);
  `xch_spec` joins both directions, `rs_spec` and `ag_spec` add what a hop does to the result buffer.
-/
module

public import proofs.«01_k».proof.Proof.KernelIdealRing

@[expose] public section

set_option maxRecDepth 16384

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ)

/-- What a device owes while `k` hops remain. -/
def owed (c : Dev nD) (O : CellTallies nD τ sig Unit) : sProp 𝕄 := iprop(∃ W, owes (c : Thread nD τ) O W)

section Wp
variable {α : Type} {Q : α → sProp (MT nD τ sig Unit (Elt F) ℕ UU ℕ)} (c : Dev nD)

/-- Hop `t`'s transfer in one direction, started: the source and the neighbour's slot go with it. -/
theorem wp_send_hop (n : Dev nD) (l : Bool) (t : Fin 6) (hn : n = dst l c)
    {hsc : (slotM l t : Memref sig (Dev.tc n : Thread nD τ).2.kind .vmem S256x1024 .bf16).view.ref.isScScratch = false}
    {hsrc : (srcM l t).view.WordExact} {hdst : (slotM l t).view.WordExact}
    {hsem : DmaTarget.Typed .vmem (.dma (recvS l t)) (.remote (Dev.tc n : Thread nD τ) (slotM l t) (.dma (sendS l t)) hsc)}
    {k : PUnit → Prog (TpuEff nD τ sig (Elt F) Λ₀ .tc) α} (O : CellTallies nD τ sig Unit) :
    iprop(records m K ∗ sendPay m c l t ∗ (∃ f, slotPts l t (dst l c) f) ∗ owed c (O + tallyAt (recvCell l t (dst l c)) () N)
        ∗ dutyTok ER (sendCell l t c) 0 false ∗ dutyTok ER (recvCell l t (dst l c)) 0 false)
      ⊢ iprop(((cred (tallyAt (sendCell l t c) () N) ∗ owed c O) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (srcM l t) (.remote (Dev.tc n : Thread nD τ) (slotM l t) (.dma (sendS l t)) hsc) (.dma (recvS l t)) hsrc hdst hsem) k) Q) := by
  subst hn
  unfold owed
  iintro ⟨#HR, Hs, ⟨%fd, Hd⟩, ⟨%W, Ho⟩, Ht1, Ht2⟩ Hk
  unfold sendPay owns
  icases Hs with ⟨%fs, %hfs, Hs⟩
  ihave H1 := (records_at m K (c, some (false, l, t))) $$ HR
  icases H1 with ⟨#HI1, #Hr1⟩
  ihave H2 := (records_at m K (dst l c, some (true, l, t))) $$ HR
  icases H2 with ⟨#HI2, #Hr2⟩
  unfold slotPts
  iapply (Rounds.wp_send_pointsTo 𝒱₀ ER (ringRd m) (c : Thread nD τ) none (c' := (dst l c : Thread nD τ)) (src := srcM l t) (dst := slotM l t) (sS := .dma (sendS l t)) (sem := .dma (recvS l t)) (κ₁ := K (c, some (false, l, t))) (κ₂ := K (dst l c, some (true, l, t)))
    (r₁ := 0) (r₂ := 0) (d₁ := false) (d₂ := false) (fs := fs) (fd := fd)
    (by rw [duties_send]; exact Finset.mem_singleton_self _) (by rw [duties_recv]; exact Finset.mem_singleton_self _)
    () () N (slot_credit l t) (amount_send m c l t false) (amount_recv m (dst l c) l t false) O rfl (W := W)
    (by
      rw [payload_send]; unfold sendPay owns
      iintro H; iexists fs; isplitr; · ipureintro; exact hfs
      iexact H)
    (by
      rw [payload_recv]; unfold recvPay owns; rw [src_dst]
      iintro H; iexists _; isplitr
      · ipureintro; exact (View.read_write_univ (v := (slotM l t).view) fd _).trans hfs
      iexact H)) $$ [Hs Hd Ho Ht1 Ht2]
  · isplitr; · iexact HI1
    isplitr; · iexact HI2
    isplitl [Hs]; · iexact Hs
    isplitl [Hd]; · iexact Hd
    isplitl [Ho]; · iexact Ho
    isplitl [Ht1]; · iexact Ht1
    isplitr; · iexact Hr1
    isplitl [Ht2]; · iexact Ht2
    iexact Hr2
  iintro ⟨Hc, Ho⟩
  iapply Hk
  isplitl [Hc]; · iexact Hc
  iexists W; iexact Ho

/-- The wait for a departure: the source back, the semaphore closed at zero. -/
theorem wp_wait_send (l : Bool) (t : Fin 6) (n : ℕ) (hn : n ≤ 6) {sp : Space} {a : Memref sig .tc sp S256x1024 .bf16} {b : Memref sig .tc .vmem S256x1024 .bf16}
    {ha : a.view.WordExact} {hb : b.view.WordExact} (hN : b.view.dmaCredit = N)
    {k : PUnit → Prog (TpuEff nD τ sig (Elt F) Λ₀ .tc) α} :
    iprop(records m K ∗ levAts L lv ∗ cred (tallyAt (sendCell l t c) () N) ∗ owed c (Orem c n) ∗ atPos ER (sendCell l t c) 0 ∅ 0)
      ⊢ iprop(((sendPay m c l t ∗ owed c (Orem c n) ∗ semVal (sendCell l t c) 0) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendS l t) a b ha hb) k) Q) := by
  unfold owed
  iintro ⟨#HR, #Hlev, Hc, ⟨%W, Ho⟩, Hat⟩ Hk
  ihave H1 := (records_at m K (c, some (false, l, t))) $$ HR
  icases H1 with ⟨#HI, -⟩
  iapply (Rounds.wp_wait_rest_token 𝒱₀ ER (ringRd m) (c : Thread nD τ) none (κ := K (c, some (false, l, t))) (sm := .dma (sendS l t))
      (wpE_waitDma2_eq 𝒱₀ (c : Thread nD τ) none Set.univ) (Set.mem_univ _) () (O := Orem c n) (W := W) (R := 0) (m := 0) (T := ∅)
      (by rw [Nat.zero_add, expect_send, hN])) $$ [Hc Ho Hat]
  · isplitr; · iexact HI
    isplitl [Hc]; · rw [hN]; iexact Hc
    isplitl [Ho]; · iexact Ho
    isplitr; · iapply (mayWait_send c l t n hn); iexact Hlev
    iexact Hat
  iintro ⟨Ho, Hat, -, Hpay⟩
  ihave Hp := (Entails.of_eq (rest_send m c l t)) $$ Hpay
  imod (Rounds.cell_close ER (ringRd m) (Set.mem_univ (K (c, some (false, l, t)))) (fun h => h) (R := 0 + 1) (duties_later m (sendCell l t c))) $$ [Hat] with Hz
  · isplitr; · iexact HI
    iexact Hat
  iapply Hk
  isplitl [Hp]; · iexact Hp
  isplitl [Ho]; · iexists _; iexact Ho
  iexact Hz

/-- The wait for an arrival: the slot filled, the semaphore closed at zero. -/
theorem wp_wait_recv (l : Bool) (t : Fin 6) (n : ℕ) (hn : t.val + n ≤ 5) {sp : Space} {a : Memref sig .tc sp S256x1024 .bf16} {b : Memref sig .tc .vmem S256x1024 .bf16}
    {ha : a.view.WordExact} {hb : b.view.WordExact} (hN : b.view.dmaCredit = N)
    {k : PUnit → Prog (TpuEff nD τ sig (Elt F) Λ₀ .tc) α} :
    iprop(records m K ∗ levAts L lv ∗ cred (tallyAt (recvCell l t c) () N) ∗ owed c (Orem c n) ∗ atPos ER (recvCell l t c) 0 ∅ 0)
      ⊢ iprop(((recvPay m c l t ∗ owed c (Orem c n) ∗ semVal (recvCell l t c) 0) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvS l t) a b ha hb) k) Q) := by
  unfold owed
  iintro ⟨#HR, #Hlev, Hc, ⟨%W, Ho⟩, Hat⟩ Hk
  ihave H1 := (records_at m K (c, some (true, l, t))) $$ HR
  icases H1 with ⟨#HI, -⟩
  iapply (Rounds.wp_wait_rest_token 𝒱₀ ER (ringRd m) (c : Thread nD τ) none (κ := K (c, some (true, l, t))) (sm := .dma (recvS l t))
      (wpE_waitDma2_eq 𝒱₀ (c : Thread nD τ) none Set.univ) (Set.mem_univ _) () (O := Orem c n) (W := W) (R := 0) (m := 0) (T := ∅)
      (by rw [Nat.zero_add, expect_recv, hN])) $$ [Hc Ho Hat]
  · isplitr; · iexact HI
    isplitl [Hc]; · rw [hN]; iexact Hc
    isplitl [Ho]; · iexact Ho
    isplitr; · iapply (mayWait_recv c l t n hn); iexact Hlev
    iexact Hat
  iintro ⟨Ho, Hat, -, Hpay⟩
  ihave Hp := (Entails.of_eq (rest_recv m c l t)) $$ Hpay
  imod (Rounds.cell_close ER (ringRd m) (Set.mem_univ (K (c, some (true, l, t)))) (fun h => h) (R := 0 + 1) (duties_later m (recvCell l t c))) $$ [Hat] with Hz
  · isplitr; · iexact HI
    iexact Hat
  iapply Hk
  isplitl [Hp]; · iexact Hp
  isplitl [Ho]; · iexists _; iexact Ho
  iexact Hz

end Wp

section Pieces
variable (c : Dev nD) {Q : PUnit → sProp (MT nD τ sig Unit (Elt F) ℕ UU ℕ)}

/-- What a hop starts from besides the sources: the neighbours' slots, the hop's ring resources, what is owed. -/
def hopPre (t : Fin 6) (n : ℕ) : sProp 𝕄 :=
  iprop((∃ f, slotPts (F := F) false t (dst false c) f) ∗ (∃ f, slotPts (F := F) true t (dst true c) f)
    ∗ hopRes c false t ∗ hopRes c true t ∗ owed c (Orem c n))
/-- What a hop leaves: both filled slots, its semaphores at zero, what is still owed. -/
def hopPost (t : Fin 6) (n : ℕ) : sProp 𝕄 :=
  iprop(recvPay m c false t ∗ recvPay m c true t ∗ hopDone c false t ∗ hopDone c true t ∗ owed c (Orem c n))

/-- Both directions' transfers of hop `t`, the `n` hops after it still owed. -/
theorem xch_spec (t : Fin 6) (n : ℕ) (hn : t.val + n = 5) (sR sL : Memref sig .tc .vmem S256x1024 .bf16) (hR : sR.view.WordExact) (hL : sL.view.WordExact)
    (eR : sR = srcM false t) (eL : sL = srcM true t) (r l : Dev nD) (er : r = dst false c) (el : l = dst true c) :
    iprop(records m K ∗ levAts L lv ∗ sendPay m c false t ∗ sendPay m c true t ∗ hopPre c t (n + 1)
        ∗ ((sendPay m c false t ∗ sendPay m c true t ∗ hopPost m c t n) -∗ Q ⟨⟩))
      ⊢ wp frame (wpE (defs₀ (F := F)) 𝒱₀ (c : Thread nD τ) none) Set.univ (xchP (F := F) sR sL hR hL t r l) Q := by
  subst eR eL
  have ht : hop n = t := Fin.ext (by show (5 - n) % 6 = t.val; omega)
  unfold xchP hopPre hopRes
  simp only [Prog.lift, Prog.bind_op, Prog.bind_ret, Prog.pure_eq_ret]
  rw [show Orem c (n + 1) = (Orem c n + tallyAt (recvCell true t (dst true c)) () N) + tallyAt (recvCell false t (dst false c)) () N by
    rw [← ht]; rfl]
  iintro ⟨#HR, #Hlev, HsR, HsL, ⟨HdR, HdL, ⟨HaSR, HaVR, HtSR, HtVR, HcR⟩, ⟨HaSL, HaVL, HtSL, HtVL, HcL⟩, Ho⟩, Hk⟩
  iapply (wp_send_hop m K c r false t er (Orem c n + tallyAt (recvCell true t (dst true c)) () N)) $$ [HsR HdR Ho HtSR HtVR]
  · isplitr; · iexact HR
    isplitl [HsR]; · iexact HsR
    isplitl [HdR]; · iexact HdR
    isplitl [Ho]; · iexact Ho
    isplitl [HtSR] <;> iassumption
  iintro ⟨HcSR, Ho⟩
  iapply (wp_send_hop m K c l true t el (Orem c n)) $$ [HsL HdL Ho HtSL HtVL]
  · isplitr; · iexact HR
    isplitl [HsL]; · iexact HsL
    isplitl [HdL]; · iexact HdL
    isplitl [Ho]; · iexact Ho
    isplitl [HtSL] <;> iassumption
  iintro ⟨HcSL, Ho⟩
  iapply (wp_wait_send m K c false t n (by omega) (src_credit false t)) $$ [HcSR Ho HaSR]
  · isplitr; · iexact HR
    isplitr; · iexact Hlev
    isplitl [HcSR]; · iexact HcSR
    isplitl [Ho] <;> iassumption
  iintro ⟨HsR, Ho, HzSR⟩
  iapply (wp_wait_recv m K c false t n hn.le (slot_credit false t)) $$ [HcR Ho HaVR]
  · isplitr; · iexact HR
    isplitr; · iexact Hlev
    isplitl [HcR]; · iexact HcR
    isplitl [Ho] <;> iassumption
  iintro ⟨HvR, Ho, HzVR⟩
  iapply (wp_wait_send m K c true t n (by omega) (src_credit true t)) $$ [HcSL Ho HaSL]
  · isplitr; · iexact HR
    isplitr; · iexact Hlev
    isplitl [HcSL]; · iexact HcSL
    isplitl [Ho] <;> iassumption
  iintro ⟨HsL, Ho, HzSL⟩
  iapply (wp_wait_recv m K c true t n hn.le (slot_credit true t)) $$ [HcL Ho HaVL]
  · isplitr; · iexact HR
    isplitr; · iexact Hlev
    isplitl [HcL]; · iexact HcL
    isplitl [Ho] <;> iassumption
  iintro ⟨HvL, Ho, HzVL⟩
  rw [wp_ret]; imodintro
  iapply Hk
  unfold hopPost hopDone
  isplitl [HsR]; · iexact HsR
  isplitl [HsL]; · iexact HsL
  isplitl [HvR]; · iexact HvR
  isplitl [HvL]; · iexact HvL
  isplitl [HzSR HzVR]; · isplitl [HzSR] <;> iassumption
  isplitl [HzSL HzVL]; · isplitl [HzSL] <;> iassumption
  iexact Ho

/-- Both staging buffers at some contents. -/
def stages : sProp 𝕄 := iprop((∃ X, owns (c : Thread nD τ) (stageM false) fullShare X) ∗ (∃ X, owns (c : Thread nD τ) (stageM true) fullShare X))

theorem sent_of_le (l : Bool) (t : ℕ) (ht : t ≤ 3) (c : Dev nD) : sent m l t c = k0_pay2 (ch m t c l (back l t c)) := by
  match t, ht with
  | 0, _ => rfl
  | 1, _ => rfl
  | 2, _ => rfl
  | 3, _ => rfl

theorem src_of_le (l : Bool) (t : Fin 6) (ht : t.val ≤ 3) : srcM l t = stageM l := by
  match t, ht with
  | 0, _ => rfl
  | 1, _ => rfl
  | 2, _ => rfl
  | 3, _ => rfl

theorem sendPay_stage (l : Bool) (t : Fin 6) (ht : t.val ≤ 3) (X : Vec F S256x1024 .bf16) (hX : X = k0_pay2 (ch m t.val c l (back l t.val c))) :
    sendPay m c l t = owns (c : Thread nD τ) (stageM l) fullShare X := by
  unfold sendPay; rw [sent_of_le m l _ ht, src_of_le l t ht, hX]

/-- What arrived at hops 3 and 4 is what the hop after sends. -/
theorem recv_send3 (l : Bool) : recvPay m c l 3 = sendPay m c l 4 := rfl
theorem recv_send4 (l : Bool) : recvPay m c l 4 = sendPay m c l 5 := rfl

theorem ch_succ (t : ℕ) (wf wt : Vec F S256x1024 .f32)
    (hf : wf = k0_pay4 (ch m t c false (back false (t + 1) c)) (lift (k0_pay2 (ch m t (src false c) false (back false t (src false c))))))
    (ht : wt = k0_pay4 (ch m t c true (back true (t + 1) c)) (lift (k0_pay2 (ch m t (src true c) true (back true t (src true c)))))) :
    upd (upd (fun l j => ch m t c l j) false (back false (t + 1) c) wf) true (back true (t + 1) c) wt = fun l j => ch m (t + 1) c l j := by
  funext l j
  unfold upd
  rw [show ch m (t + 1) c l j = if j = back l (t + 1) c then k0_pay4 (ch m t c l j) (lift (k0_pay2 (ch m t (src l c) l (back l t (src l c))))) else ch m t c l j from rfl]
  cases l
  · by_cases h : j = back false (t + 1) c
    · rw [if_neg (fun h' => Bool.false_ne_true h'.1), if_pos ⟨rfl, h⟩, if_pos h, hf, h]
    · rw [if_neg (fun h' => Bool.false_ne_true h'.1), if_neg (fun h' => h h'.2), if_neg h]
  · by_cases h : j = back true (t + 1) c
    · rw [if_pos ⟨rfl, h⟩, if_pos h, ht, h]
    · rw [if_neg (fun h' => h h'.2), if_neg (fun h' => Bool.false_ne_true h'.1.symm), if_neg h]

theorem ag_succ (k : ℕ) (wf wt : Vec F S256x1024 .f32)
    (hf : wf = k0_pay19 (lift (sent m false (3 + k) (src false c)))) (ht : wt = k0_pay19 (lift (sent m true (3 + k) (src true c)))) :
    upd (upd (fun l j => ag m k c l j) false (back false k c) wf) true (back true k c) wt = fun l j => ag m (k + 1) c l j := by
  funext l j
  unfold upd
  rw [show ag m (k + 1) c l j = if j = back l k c then k0_pay19 (lift (sent m l (3 + k) (src l c))) else ag m k c l j from rfl]
  cases l
  · by_cases h : j = back false k c
    · rw [if_neg (fun h' => Bool.false_ne_true h'.1), if_pos ⟨rfl, h⟩, if_pos h, hf]
    · rw [if_neg (fun h' => Bool.false_ne_true h'.1), if_neg (fun h' => h h'.2), if_neg h]
  · by_cases h : j = back true k c
    · rw [if_pos ⟨rfl, h⟩, if_pos h, ht]
    · rw [if_neg (fun h' => h h'.2), if_neg (fun h' => Bool.false_ne_true h'.1.symm), if_neg h]

/-- One hop of the reduce-scatter. -/
theorem rs_spec (t : Fin 6) (n : ℕ) (hn : t.val + n = 5) (ht : t.val ≤ 3) (r l : Dev nD) (er : r = dst false c) (el : l = dst true c)
    (oR oL aR aL : Fin 2 → Nat)
    (hoR : ∀ a, oR a + S256x1024.size a ≤ S2048x1024.size a) (hoL : ∀ a, oL a + S256x1024.size a ≤ S2048x1024.size a)
    (haR : ∀ a, aR a + S256x1024.size a ≤ S2048x1024.size a) (haL : ∀ a, aL a + S256x1024.size a ≤ S2048x1024.size a)
    (eoR : oR = chunkO false (back false t.val c)) (eoL : oL = chunkO true (back true t.val c))
    (eaR : aR = chunkO false (back false (t.val + 1) c)) (eaL : aL = chunkO true (back true (t.val + 1) c)) :
    iprop(records m K ∗ levAts L lv ∗ outIs c (fun l j => ch m t.val c l j) ∗ stages c ∗ hopPre c t (n + 1)
        ∗ ((outIs c (fun l j => ch m (t.val + 1) c l j) ∗ stages c ∗ hopPost m c t n) -∗ Q ⟨⟩))
      ⊢ wp frame (wpE (defs₀ (F := F)) 𝒱₀ (c : Thread nD τ) none) Set.univ (rsP (F := F) t r l oR oL aR aL hoR hoL haR haL) Q := by
  unfold rsP stages
  simp only [wp_bind]
  iintro ⟨#HR, #Hlev, Hout, ⟨HsR, HsL⟩, Hp, Hk⟩
  iapply (stage_spec c (fun l j => ch m t.val c l j) false _ oR hoR eoR)
  isplitl [Hout]; · iexact Hout
  isplitl [HsR]; · iexact HsR
  iintro ⟨Hout, HsR⟩
  iapply (stage_spec c (fun l j => ch m t.val c l j) true _ oL hoL eoL)
  isplitl [Hout]; · iexact Hout
  isplitl [HsL]; · iexact HsL
  iintro ⟨Hout, HsL⟩
  iapply (xch_spec m K c t n hn _ _ _ _ (src_of_le false t ht).symm (src_of_le true t ht).symm r l er el)
  isplitr; · iexact HR
  isplitr; · iexact Hlev
  isplitl [HsR]; · rw [sendPay_stage m c false t ht _ rfl]; iexact HsR
  isplitl [HsL]; · rw [sendPay_stage m c true t ht _ rfl]; iexact HsL
  isplitl [Hp]; · iexact Hp
  rw [sendPay_stage m c false t ht _ rfl, sendPay_stage m c true t ht _ rfl]
  unfold hopPost recvPay
  iintro ⟨HsR, HsL, HvR, HvL, HzR, HzL, Ho⟩
  iapply (add_spec c (fun l j => ch m t.val c l j) false t _ _ aR haR eaR)
  isplitl [Hout]; · iexact Hout
  isplitl [HvR]; · iexact HvR
  iintro ⟨Hout, HvR⟩
  iapply (add_spec c _ true t _ _ aL haL eaL)
  isplitl [Hout]; · iexact Hout
  isplitl [HvL]; · iexact HvL
  iintro ⟨Hout, HvL⟩
  rw [ch_succ m c t.val _ _ (by rw [sent_of_le m _ _ ht]) (by
    unfold upd; rw [if_neg (fun h' => Bool.false_ne_true h'.1.symm), sent_of_le m _ _ ht])]
  iapply Hk
  isplitl [Hout]; · iexact Hout
  isplitl [HsR HsL]
  · isplitl [HsR]; · iexists _; iexact HsR
    iexists _; iexact HsL
  isplitl [HvR]; · iexact HvR
  isplitl [HvL]; · iexact HvL
  isplitl [HzR]; · iexact HzR
  isplitl [HzL]; · iexact HzL
  iexact Ho

/-- One hop of the all-gather. -/
theorem ag_spec (t : Fin 6) (k n : ℕ) (hk : t.val = 3 + k) (hn : t.val + n = 5) (sR sL : Memref sig .tc .vmem S256x1024 .bf16)
    (hR : sR.view.WordExact) (hL : sL.view.WordExact) (eR : sR = srcM false t) (eL : sL = srcM true t)
    (r l : Dev nD) (er : r = dst false c) (el : l = dst true c) (oR oL : Fin 2 → Nat)
    (hoR : ∀ a, oR a + S256x1024.size a ≤ S2048x1024.size a) (hoL : ∀ a, oL a + S256x1024.size a ≤ S2048x1024.size a)
    (eoR : oR = chunkO false (back false k c)) (eoL : oL = chunkO true (back true k c)) :
    iprop(records m K ∗ levAts L lv ∗ outIs c (fun l j => ag m k c l j) ∗ sendPay m c false t ∗ sendPay m c true t ∗ hopPre c t (n + 1)
        ∗ ((outIs c (fun l j => ag m (k + 1) c l j) ∗ sendPay m c false t ∗ sendPay m c true t ∗ hopPost m c t n) -∗ Q ⟨⟩))
      ⊢ wp frame (wpE (defs₀ (F := F)) 𝒱₀ (c : Thread nD τ) none) Set.univ (agP (F := F) sR sL hR hL t r l oR oL hoR hoL) Q := by
  unfold agP
  simp only [wp_bind]
  iintro ⟨#HR, #Hlev, Hout, HsR, HsL, Hp, Hk⟩
  iapply (xch_spec m K c t n hn _ _ _ _ eR eL r l er el)
  isplitr; · iexact HR
  isplitr; · iexact Hlev
  isplitl [HsR]; · iexact HsR
  isplitl [HsL]; · iexact HsL
  isplitl [Hp]; · iexact Hp
  unfold hopPost recvPay
  iintro ⟨HsR, HsL, HvR, HvL, HzR, HzL, Ho⟩
  iapply (put_spec c (fun l j => ag m k c l j) false t _ _ oR hoR eoR)
  isplitl [Hout]; · iexact Hout
  isplitl [HvR]; · iexact HvR
  iintro ⟨Hout, HvR⟩
  iapply (put_spec c _ true t _ _ oL hoL eoL)
  isplitl [Hout]; · iexact Hout
  isplitl [HvL]; · iexact HvL
  iintro ⟨Hout, HvL⟩
  rw [ag_succ m c k _ _ (by rw [hk]) (by rw [hk])]
  iapply Hk
  isplitl [Hout]; · iexact Hout
  isplitl [HsR]; · iexact HsR
  isplitl [HsL]; · iexact HsL
  isplitl [HvR]; · iexact HvR
  isplitl [HvL]; · iexact HvL
  isplitl [HzR]; · iexact HzR
  isplitl [HzL]; · iexact HzL
  iexact Ho

/-- The handshake: this device's slots go to its neighbours, theirs come. -/
theorem bar_spec (p n : Dev nD) (hp : p = prv c) (hn : n = nxt c) :
    iprop(records m K ∗ levAts L lv ∗ barRes c ∗ owed c (O₀ c)
        ∗ bigSep Finset.univ (fun t : Fin 6 => iprop(∃ f, slotPts (F := F) false t c f)) ∗ bigSep Finset.univ (fun t : Fin 6 => iprop(∃ f, slotPts (F := F) true t c f))
        ∗ ((owed c (Orem c 6) ∗ semVal (barCell c) 0 ∗ bigSep Finset.univ (fun t : Fin 6 => iprop(∃ f, slotPts (F := F) false t (dst false c) f))
            ∗ bigSep Finset.univ (fun t : Fin 6 => iprop(∃ f, slotPts (F := F) true t (dst true c) f))) -∗ Q ⟨⟩))
      ⊢ wp frame (wpE (defs₀ (F := F)) 𝒱₀ (c : Thread nD τ) none) Set.univ (barP (F := F) p n) Q := by
  subst hp hn
  unfold barP barRes owed
  simp only [semSignalWord, semWaitWord, Prog.lift, Prog.bind_op, Prog.bind_ret, Prog.pure_eq_ret]
  iintro ⟨#HR, #Hlev, ⟨Hat, Ht1, Ht2, Hc⟩, ⟨%W, Ho⟩, Hf, Hg, Hk⟩
  ihave H1 := (records_at m K (c, none)) $$ HR
  icases H1 with ⟨#HI, -⟩
  ihave H1 := (records_at m K (prv c, none)) $$ HR
  icases H1 with ⟨#HIP, #HrP⟩
  ihave H1 := (records_at m K (nxt c, none)) $$ HR
  icases H1 with ⟨#HIN, #HrN⟩
  iapply (Rounds.wp_signal 𝒱₀ ER (ringRd m) (c : Thread nD τ) none (dst := (prv c : Thread nD τ)) (κ := K (prv c, none))
      (d := true) (by rw [duties_bar]; exact Finset.mem_univ _) ((amount_bar m (prv c) true).trans (by decide)) () (O₁ c) rfl)
    $$ [Ho Ht1 Hf]
  · isplitr; · iexact HIP
    isplitl [Ho]; · iexact Ho
    isplitl [Ht1]; · iexact Ht1
    isplitl [Hf]
    · rw [payload_bar]; unfold barPay
      rw [show dst (!true) (prv c) = c from nxt_prv c]
      iexact Hf
    iexact HrP
  iintro Ho
  iapply (Rounds.wp_signal 𝒱₀ ER (ringRd m) (c : Thread nD τ) none (dst := (nxt c : Thread nD τ)) (κ := K (nxt c, none))
      (d := false) (by rw [duties_bar]; exact Finset.mem_univ _) ((amount_bar m (nxt c) false).trans (by decide)) () (Orem c 6) rfl)
    $$ [Ho Ht2 Hg]
  · isplitr; · iexact HIN
    isplitl [Ho]; · iexact Ho
    isplitl [Ht2]; · iexact Ht2
    isplitl [Hg]
    · rw [payload_bar]; unfold barPay
      rw [show dst (!false) (nxt c) = c from prv_nxt c]
      iexact Hg
    iexact HrN
  iintro Ho
  iapply (Rounds.wp_wait_rest_token 𝒱₀ ER (ringRd m) (c : Thread nD τ) none (κ := K (c, none))
      (wpE_semWait_eq 𝒱₀ (c : Thread nD τ) none Set.univ) (Set.mem_univ _) () (O := Orem c 6) (W := W) (R := 0) (m := 0) (T := ∅)
      (by rw [expect_bar]; decide)) $$ [Hc Ho Hat]
  · isplitr; · iexact HI
    isplitl [Hc]; · iexact Hc
    isplitl [Ho]; · iexact Ho
    isplitr; · iapply (mayWait_bar c); iexact Hlev
    iexact Hat
  iintro ⟨Ho, Hat, -, Hpay⟩
  ihave Hp := (Entails.of_eq (rest_bar m c)) $$ Hpay
  unfold barPay
  icases Hp with ⟨Hg, Hf⟩
  imod (Rounds.cell_close ER (ringRd m) (Set.mem_univ (K (c, none))) (fun h => h) (R := 0 + 1) (duties_later m (barCell c))) $$ [Hat] with Hz
  · isplitr; · iexact HI
    iexact Hat
  rw [wp_ret]; imodintro
  iapply Hk
  isplitl [Ho]; · iexists _; iexact Ho
  isplitl [Hz]; · iexact Hz
  isplitl [Hf]; · iexact Hf
  iexact Hg

/-- What the last grid point's exchange needs of the ring on one device. -/
def ringStart : sProp 𝕄 :=
  iprop(barRes c ∗ (bigSep Finset.univ fun t : Fin 6 => iprop(hopRes (F := F) c false t ∗ hopRes c true t))
    ∗ bigSep Finset.univ (fun t : Fin 6 => iprop(∃ f, slotPts (F := F) false t c f)) ∗ bigSep Finset.univ (fun t : Fin 6 => iprop(∃ f, slotPts (F := F) true t c f))
    ∗ stages c)
/-- And what the exchange leaves. -/
def ringEnd : sProp 𝕄 :=
  iprop(semVal (barCell c) 0 ∗ (bigSep Finset.univ fun t : Fin 6 => iprop(hopDone (F := F) c false t ∗ hopDone c true t))
    ∗ bigSep Finset.univ (fun t : Fin 6 => iprop(∃ f, slotPts (F := F) false t c f)) ∗ bigSep Finset.univ (fun t : Fin 6 => iprop(∃ f, slotPts (F := F) true t c f))
    ∗ stages c)

omit [FloatOps F] in
theorem bigSep_six (Φ : Fin 6 → sProp 𝕄) : bigSep Finset.univ Φ = iprop(Φ 0 ∗ Φ 1 ∗ Φ 2 ∗ Φ 3 ∗ Φ 4 ∗ Φ 5) := by
  rw [bigSep_univ_eq_bigSepL [0, 1, 2, 3, 4, 5] (by decide) (by decide)]
  simp only [bigSepL_cons_cons, bigSepL_singleton]
  rfl

omit [FloatOps F] in
theorem slot_of_owns (l : Bool) (t : Fin 6) (X : Vec F S256x1024 .bf16) :
    (owns (c : Thread nD τ) (slotM l t) fullShare X : sProp 𝕄) ⊢ iprop(∃ f, slotPts l t c f) := by
  unfold owns slotPts
  iintro ⟨%f, -, H⟩
  iexists f; iexact H

/-- The last grid point after its head: the projection, the handshake, six hops; the result buffer ends at the result. -/
theorem last_spec (i : grid0.Coords) (h4 : k0_cond4 i = 1#1) (wo : Buf (Elt F) ((c : Thread nD τ).loc cc0_stg2_0)) (hwo : wo = (iblk m c 2 t0_7 : Vec F S1024x1024 .f32)) :
    iprop(records m K ∗ levAts L lv ∗ ringStart c ∗ owed c (O₀ c)
        ∗ (((c : Thread nD τ).loc cc0_scratch1) ↦{fullShare} (ctxv m c : Vec F S2048x1024 .bf16)) ∗ (((c : Thread nD τ).loc cc0_stg2_0) ↦{fullShare} wo)
        ∗ (∃ f : Buf (Elt F) ((c : Thread nD τ).loc cc0_stg3_0), ((c : Thread nD τ).loc cc0_stg3_0) ↦{fullShare} f)
        ∗ ((ringEnd c ∗ owed c 0 ∗ (((c : Thread nD τ).loc cc0_scratch1) ↦{fullShare} (ctxv m c : Vec F S2048x1024 .bf16))
            ∗ (((c : Thread nD τ).loc cc0_stg2_0) ↦{fullShare} wo)
            ∗ (((c : Thread nD τ).loc cc0_stg3_0) ↦{fullShare} (outF m c : Vec F S2048x1024 .f32))) -∗ Q ⟨⟩))
      ⊢ wp frame (wpE (defs₀ (F := F)) 𝒱₀ (c : Thread nD τ) none) Set.univ (lastP (F := F) i c h4) Q := by
  unfold lastP ringStart
  simp only [wp_bind]
  rw [bigSep_six]
  iintro ⟨#HR, #Hlev, ⟨Hbar, ⟨⟨HhR0, HhL0⟩, ⟨HhR1, HhL1⟩, ⟨HhR2, HhL2⟩, ⟨HhR3, HhL3⟩, ⟨HhR4, HhL4⟩, ⟨HhR5, HhL5⟩⟩, Hf, Hg, Hst⟩, Ho, Hctx, Hwo, Hout, Hk⟩
  iapply (proj_spec c _ wo)
  isplitl [Hctx]; · iexact Hctx
  isplitl [Hwo]; · iexact Hwo
  isplitl [Hout]; · iexact Hout
  iintro ⟨Hctx, Hwo, Hout⟩
  iapply (bar_spec m K c _ _ (Fin.ext (dev1_eq c)) (Fin.ext (dev2_eq c)))
  isplitr; · iexact HR
  isplitr; · iexact Hlev
  isplitl [Hbar]; · iexact Hbar
  isplitl [Ho]; · iexact Ho
  isplitl [Hf]; · iexact Hf
  isplitl [Hg]; · iexact Hg
  rw [bigSep_six, bigSep_six]
  iintro ⟨Ho, HzB, ⟨Hf0, Hf1, Hf2, Hf3, Hf4, Hf5⟩, ⟨Hg0, Hg1, Hg2, Hg3, Hg4, Hg5⟩⟩
  iapply (rs_spec m K c 0 5 rfl (by decide) _ _ (Fin.ext (dev3_eq c)) (Fin.ext (dev4_eq c)) _ _ _ _ _ _ _ _ (off16_eq0 c) (off17_eq0 c) (off18_eq0 c) (off19_eq0 c))
  isplitr; · iexact HR
  isplitr; · iexact Hlev
  isplitl [Hout]
  · unfold outIs; iexists _; isplitr; swap; · iexact Hout
    ipureintro; intro l j; rw [hwo]; rfl
  isplitl [Hst]; · iexact Hst
  isplitl [Hf0 Hg0 HhR0 HhL0 Ho]
  · unfold hopPre
    isplitl [Hf0]; · iexact Hf0
    isplitl [Hg0]; · iexact Hg0
    isplitl [HhR0]; · iexact HhR0
    isplitl [HhL0] <;> iassumption
  iintro ⟨Hout, Hst, Hpo⟩
  unfold hopPost
  icases Hpo with ⟨Hv0, Hw0, Hz0, Hy0, Ho⟩
  iapply (rs_spec m K c 1 4 rfl (by decide) _ _ (Fin.ext (dev5_eq c)) (Fin.ext (dev6_eq c)) _ _ _ _ _ _ _ _ (off16_eq1 c) (off17_eq1 c) (off18_eq1 c) (off19_eq1 c))
  isplitr; · iexact HR
  isplitr; · iexact Hlev
  isplitl [Hout]; · iexact Hout
  isplitl [Hst]; · iexact Hst
  isplitl [Hf1 Hg1 HhR1 HhL1 Ho]
  · unfold hopPre
    isplitl [Hf1]; · iexact Hf1
    isplitl [Hg1]; · iexact Hg1
    isplitl [HhR1]; · iexact HhR1
    isplitl [HhL1] <;> iassumption
  iintro ⟨Hout, Hst, Hpo⟩
  unfold hopPost
  icases Hpo with ⟨Hv1, Hw1, Hz1, Hy1, Ho⟩
  iapply (rs_spec m K c 2 3 rfl (by decide) _ _ (Fin.ext (dev7_eq c)) (Fin.ext (dev8_eq c)) _ _ _ _ _ _ _ _ (off16_eq2 c) (off17_eq2 c) (off18_eq2 c) (off19_eq2 c))
  isplitr; · iexact HR
  isplitr; · iexact Hlev
  isplitl [Hout]; · iexact Hout
  isplitl [Hst]; · iexact Hst
  isplitl [Hf2 Hg2 HhR2 HhL2 Ho]
  · unfold hopPre
    isplitl [Hf2]; · iexact Hf2
    isplitl [Hg2]; · iexact Hg2
    isplitl [HhR2]; · iexact HhR2
    isplitl [HhL2] <;> iassumption
  iintro ⟨Hout, Hst, Hpo⟩
  unfold hopPost stages
  icases Hpo with ⟨Hv2, Hw2, Hz2, Hy2, Ho⟩
  icases Hst with ⟨HsR, HsL⟩
  iapply (stage_spec c (fun l j => ch m 3 c l j) false _ _ _ (off20_eq c))
  isplitl [Hout]; · iexact Hout
  isplitl [HsR]; · iexact HsR
  iintro ⟨Hout, HsR⟩
  iapply (stage_spec c (fun l j => ch m 3 c l j) true _ _ _ (off21_eq c))
  isplitl [Hout]; · iexact Hout
  isplitl [HsL]; · iexact HsL
  iintro ⟨Hout, HsL⟩
  iapply (ag_spec m K c 3 0 2 rfl rfl _ _ _ _ rfl rfl _ _ (Fin.ext (dev9_eq c)) (Fin.ext (dev10_eq c)) _ _ _ _ (off16_eq0 c) (off17_eq0 c))
  isplitr; · iexact HR
  isplitr; · iexact Hlev
  isplitl [Hout]; · iexact Hout
  isplitl [HsR]; · rw [sendPay_stage m c false 3 (by decide) _ rfl]; iexact HsR
  isplitl [HsL]; · rw [sendPay_stage m c true 3 (by decide) _ rfl]; iexact HsL
  isplitl [Hf3 Hg3 HhR3 HhL3 Ho]
  · unfold hopPre
    isplitl [Hf3]; · iexact Hf3
    isplitl [Hg3]; · iexact Hg3
    isplitl [HhR3]; · iexact HhR3
    isplitl [HhL3] <;> iassumption
  rw [sendPay_stage m c false 3 (by decide) _ rfl, sendPay_stage m c true 3 (by decide) _ rfl]
  iintro ⟨Hout, HsR, HsL, Hpo⟩
  unfold hopPost
  icases Hpo with ⟨Hv3, Hw3, Hz3, Hy3, Ho⟩
  iapply (ag_spec m K c 4 1 1 rfl rfl _ _ _ _ rfl rfl _ _ (Fin.ext (dev11_eq c)) (Fin.ext (dev12_eq c)) _ _ _ _ (off16_eq1 c) (off17_eq1 c))
  isplitr; · iexact HR
  isplitr; · iexact Hlev
  isplitl [Hout]; · iexact Hout
  isplitl [Hv3]; · rw [← recv_send3]; iexact Hv3
  isplitl [Hw3]; · rw [← recv_send3]; iexact Hw3
  isplitl [Hf4 Hg4 HhR4 HhL4 Ho]
  · unfold hopPre
    isplitl [Hf4]; · iexact Hf4
    isplitl [Hg4]; · iexact Hg4
    isplitl [HhR4]; · iexact HhR4
    isplitl [HhL4] <;> iassumption
  iintro ⟨Hout, Hv3, Hw3, Hpo⟩
  unfold hopPost
  icases Hpo with ⟨Hv4, Hw4, Hz4, Hy4, Ho⟩
  iapply (ag_spec m K c 5 2 0 rfl rfl _ _ _ _ rfl rfl _ _ (Fin.ext (dev13_eq c)) (Fin.ext (dev14_eq c)) _ _ _ _ (off16_eq2 c) (off17_eq2 c))
  isplitr; · iexact HR
  isplitr; · iexact Hlev
  isplitl [Hout]; · iexact Hout
  isplitl [Hv4]; · rw [← recv_send4]; iexact Hv4
  isplitl [Hw4]; · rw [← recv_send4]; iexact Hw4
  isplitl [Hf5 Hg5 HhR5 HhL5 Ho]
  · unfold hopPre
    isplitl [Hf5]; · iexact Hf5
    isplitl [Hg5]; · iexact Hg5
    isplitl [HhR5]; · iexact HhR5
    isplitl [HhL5] <;> iassumption
  iintro ⟨Hout, Hv4, Hw4, Hpo⟩
  unfold hopPost
  icases Hpo with ⟨Hv5, Hw5, Hz5, Hy5, Ho⟩
  ihave Hv3 := (Entails.of_eq (recv_send3 m c false).symm) $$ Hv3
  ihave Hv4 := (Entails.of_eq (recv_send4 m c false).symm) $$ Hv4
  ihave Hw3 := (Entails.of_eq (recv_send3 m c true).symm) $$ Hw3
  ihave Hw4 := (Entails.of_eq (recv_send4 m c true).symm) $$ Hw4
  iapply Hk
  isplitr [Ho Hctx Hwo Hout]
  · unfold ringEnd recvPay
    rw [bigSep_six, bigSep_six, bigSep_six]
    isplitl [HzB]; · iexact HzB
    isplitl [Hz0 Hy0 Hz1 Hy1 Hz2 Hy2 Hz3 Hy3 Hz4 Hy4 Hz5 Hy5]
    · isplitl [Hz0 Hy0]; · isplitl [Hz0] <;> iassumption
      isplitl [Hz1 Hy1]; · isplitl [Hz1] <;> iassumption
      isplitl [Hz2 Hy2]; · isplitl [Hz2] <;> iassumption
      isplitl [Hz3 Hy3]; · isplitl [Hz3] <;> iassumption
      isplitl [Hz4 Hy4]; · isplitl [Hz4] <;> iassumption
      isplitl [Hz5] <;> iassumption
    isplitl [Hv0 Hv1 Hv2 Hv3 Hv4 Hv5]
    · isplitl [Hv0]; · iapply (slot_of_owns c false 0 _) $$ Hv0
      isplitl [Hv1]; · iapply (slot_of_owns c false 1 _) $$ Hv1
      isplitl [Hv2]; · iapply (slot_of_owns c false 2 _) $$ Hv2
      isplitl [Hv3]; · iapply (slot_of_owns c false 3 _) $$ Hv3
      isplitl [Hv4]; · iapply (slot_of_owns c false 4 _) $$ Hv4
      iapply (slot_of_owns c false 5 _) $$ Hv5
    isplitl [Hw0 Hw1 Hw2 Hw3 Hw4 Hw5]
    · isplitl [Hw0]; · iapply (slot_of_owns c true 0 _) $$ Hw0
      isplitl [Hw1]; · iapply (slot_of_owns c true 1 _) $$ Hw1
      isplitl [Hw2]; · iapply (slot_of_owns c true 2 _) $$ Hw2
      isplitl [Hw3]; · iapply (slot_of_owns c true 3 _) $$ Hw3
      isplitl [Hw4]; · iapply (slot_of_owns c true 4 _) $$ Hw4
      iapply (slot_of_owns c true 5 _) $$ Hw5
    unfold stages
    isplitl [HsR]; · iexists _; iexact HsR
    iexists _; iexact HsL
  isplitl [Ho]; · iexact Ho
  isplitl [Hctx]; · iexact Hctx
  isplitl [Hwo]; · iexact Hwo
  unfold outIs
  icases Hout with ⟨%f, %hf, Hout⟩
  rw [← holds_out m c f hf]
  iexact Hout

end Pieces

end Cert.KernelIdeal.Own

end
-- ==== Proof.KernelIdealAttn.lean ====
/-
  The heads, piece by piece.

  A key or value buffer is either idle or being filled (`kvIdle`, `kvFly`); each half of the two arrays is read through its
  own share, so that one head's copies can be in flight while the other's are waited for. `head_spec` runs one head: it
  waits for its copies and leaves the head's 128 columns of the context buffer as `ctxv` has them.
-/
module

public import proofs.«01_k».proof.Proof.KernelIdealHops

@[expose] public section

set_option maxRecDepth 16384

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev EC : UEmb Counters (MT nD τ sig Unit (Elt F) ℕ UU ℕ) := countersEmb

/-! ## The key and value buffers -/

/-- Buffer `b % 2` of the two, -/
abbrev kvB (kv : Bool) (b : ℕ) : Memref sig .tc .vmem S2048x1x128 .f32 := kvSlotM kv (kvO b) (kvO_inb b)
/-- its semaphore, -/
abbrev kvQ (kv : Bool) (b : ℕ) : DmaSem sig := kvS (kvSO kv b) (kvSO_inb kv b)
/-- and head `t`'s place in the array. -/
abbrev kvH (kv : Bool) (c : Dev nD) (t : Fin grid0.N) : Memref sig .tc .hbm S2048x1x128 .f32 := kvHeadM kv (headO c t.val) (headO_inb c t)

/-- The share of the array a buffer's copies read through. -/
def half (b : ℕ) : PosShare TreeShare := if b % 2 = 0 then fullShare.left else fullShare.right

/-- A copy's credit. -/
def kvN : ℕ := (kvB false 0).view.dmaCredit
theorem kvN_pos : 0 < kvN := View.dmaCredit_pos _ (by decide)
theorem kvN_eq (kv : Bool) (o : Fin 4 → Nat) (h : ∀ a, o a + S1x2048x1x128.size a ≤ S2x2048x1x128.size a) : (kvSlotM kv o h).view.dmaCredit = kvN := by
  cases kv <;> rfl

/-- A buffer between a head's use and the next copy into it. -/
def kvIdle (kv : Bool) (c : Dev nD) (b : ℕ) : sProp 𝕄 :=
  iprop((∃ f, (kvB kv b).view.loc (c : Thread nD τ) ↦[(kvB kv b).view.set]{fullShare} f) ∗ semVal ((c : Thread nD τ), .dma (kvQ kv b)) 0
    ∗ ((kvA kv).view.loc (c : Thread nD τ) ↦{half b} kvV m kv c))
/-- A buffer being filled with head `t`. -/
def kvFly (kv : Bool) (c : Dev nD) (t : Fin grid0.N) : sProp 𝕄 :=
  iprop(Transfers.Flight EC (c : Thread nD τ) (.dma (kvQ kv t.val)) () kvN
      iprop(owns (c : Thread nD τ) (kvB kv t.val) fullShare (kvSq m kv c t)
        ∗ ((kvA kv).view.loc (c : Thread nD τ) ↦[(kvH kv c t).view.set]{half t.val} kvV m kv c))
    ∗ ((kvA kv).view.loc (c : Thread nD τ) ↦[Finset.univ \ (kvH kv c t).view.set]{half t.val} kvV m kv c))

theorem kvIdle_congr (kv : Bool) (c : Dev nD) (b b' : ℕ) (h : b % 2 = b' % 2) : kvIdle m kv c b = kvIdle m kv c b' := by
  have h1 : kvO b = kvO b' := by unfold kvO; rw [h]
  have h2 : kvSO kv b = kvSO kv b' := by unfold kvSO; rw [h]
  have h3 : half b = half b' := by unfold half; rw [h]
  have h4 : kvB kv b = kvB kv b' := by
    have : ∀ (o o' : Fin 4 → ℕ) (ho ho') (e : o = o'), kvSlotM kv o ho = kvSlotM kv o' ho' := fun o o' ho ho' e => by subst e; rfl
    exact this _ _ _ _ h1
  have h5 : kvQ kv b = kvQ kv b' := by
    have : ∀ (o o' : Fin 2 → ℕ) (ho ho') (e : o = o'), kvS o ho = kvS o' ho' := fun o o' ho ho' e => by subst e; rfl
    exact this _ _ _ _ h2
  unfold kvIdle
  have h6 : ∀ (M M' : Memref sig .tc .vmem S2048x1x128 .f32), M = M' →
      (iprop(∃ f, M.view.loc (c : Thread nD τ) ↦[M.view.set]{fullShare} f) : sProp 𝕄) = iprop(∃ f, M'.view.loc (c : Thread nD τ) ↦[M'.view.set]{fullShare} f) :=
    fun M M' e => by subst e; rfl
  rw [h6 _ _ h4, h5, h3]

theorem kvQ_ne_recv (kv : Bool) (b : ℕ) (l : Bool) (t : Fin 6) : kvQ kv b ≠ recvS l t := by
  have h : ∀ (b : Fin 2) (kv : Bool) (l : Bool) (t : Fin 6) (hi : ∀ a, (![if kv then 1 else 0, b.val] : Fin 2 → Nat) a + S1x1.size a ≤ S2x2.size a),
      kvS ![if kv then 1 else 0, b.val] hi ≠ recvS l t := by decide +kernel
  exact h ⟨b % 2, Nat.mod_lt _ (by decide)⟩ kv l t (kvSO_inb kv b)

section Wp
variable {α : Type} {Q : α → sProp (MT nD τ sig Unit (Elt F) ℕ UU ℕ)} (c : Dev nD)

/-- Head `t`'s copy started into its idle buffer. -/
theorem wp_kvStart (kv : Bool) (t : Fin grid0.N) (os : Fin 2 → Nat) (o oh : Fin 4 → Nat) (hs : ∀ a, os a + S1x1.size a ≤ S2x2.size a)
    (h : ∀ a, o a + S1x2048x1x128.size a ≤ S2x2048x1x128.size a) (hh : ∀ a, oh a + S1x2048x1x128.size a ≤ S1x2048x32x128.size a)
    (es : os = kvSO kv t.val) (eo : o = kvO t.val) (eh : oh = headO c t.val)
    {k : PUnit → Prog (TpuEff nD τ sig (Elt F) Λ₀ .tc) α} :
    kvIdle m kv c t.val ⊢ iprop((kvFly m kv c t -∗ wp frame (wpE (defs₀ (F := F)) 𝒱₀ (c : Thread nD τ) none) Set.univ (k ⟨⟩) Q)
      -∗ wp frame (wpE (defs₀ (F := F)) 𝒱₀ (c : Thread nD τ) none) Set.univ
          (.op (.enqueueDma (kvHeadM kv oh hh) (.here (kvSlotM kv o h)) (.dma (kvS os hs)) ((View.wordExact_bits rfl).reshape _ _) ((View.wordExact_bits rfl).reshape _ _) ⟨Or.inl rfl, trivial⟩) k) Q) := by
  subst es eo eh
  unfold kvIdle kvFly
  iintro ⟨⟨%f, Hd⟩, Hz, Ha⟩ Hk
  ihave Ha' := (pointsTo_split_subset (Finset.subset_univ (kvH kv c t).view.set)).1 $$ Ha
  icases Ha' with ⟨Hh, Hrest⟩
  iapply (Transfers.wp_dmaLocal EC 𝒱₀ (c : Thread nD τ) none (src := kvH kv c t) (dst := kvB kv t.val) (sm := .dma (kvQ kv t.val)) (fs := kvV m kv c) (fd := f)
      () kvN (kvN_eq kv _ _) kvN_pos (Finset.Subset.refl _)) $$ [Hh Hd Hz]
  · isplitl [Hh]; · iexact Hh
    isplitl [Hd]; · iexact Hd
    iexact Hz
  iintro Hfl
  iapply Hk
  isplitl [Hfl]
  · iapply (Transfers.Flight_mono EC (c : Thread nD τ) ?_) $$ Hfl
    iintro ⟨H1, H2⟩
    isplitl [H1]
    · unfold owns
      iexists _
      isplitr; swap; · iexact H1
      ipureintro
      exact View.read_write_univ (v := (kvB kv t.val).view) f _
    iexact H2
  iexact Hrest

/-- Head `t`'s copy waited for: its buffer holds the head, the array's share is whole again. -/
theorem wp_kvWait (kv : Bool) (t : Fin grid0.N) (os : Fin 2 → Nat) (o oh : Fin 4 → Nat) (hs : ∀ a, os a + S1x1.size a ≤ S2x2.size a)
    (h : ∀ a, o a + S1x2048x1x128.size a ≤ S2x2048x1x128.size a) (hh : ∀ a, oh a + S1x2048x1x128.size a ≤ S1x2048x32x128.size a)
    (es : os = kvSO kv t.val)
    {hsrc : (kvHeadM kv oh hh).view.WordExact} {hdst : (kvSlotM kv o h).view.WordExact}
    {k : PUnit → Prog (TpuEff nD τ sig (Elt F) Λ₀ .tc) α} :
    iprop(kvFly m kv c t ∗ levAts L lv ∗ owed c (O₀ c)) ⊢ iprop(((owns (c : Thread nD τ) (kvB kv t.val) fullShare (kvSq m kv c t) ∗ semVal ((c : Thread nD τ), .dma (kvQ kv t.val)) 0
        ∗ ((kvA kv).view.loc (c : Thread nD τ) ↦{half t.val} kvV m kv c) ∗ owed c (O₀ c)) -∗ wp frame (wpE (defs₀ (F := F)) 𝒱₀ (c : Thread nD τ) none) Set.univ (k ⟨⟩) Q)
      -∗ wp frame (wpE (defs₀ (F := F)) 𝒱₀ (c : Thread nD τ) none) Set.univ
          (.op (.waitDma2 (kvS os hs) (kvHeadM kv oh hh) (kvSlotM kv o h) hsrc hdst) k) Q) := by
  subst es
  unfold kvFly owed
  iintro ⟨⟨Hfl, Hrest⟩, #Hlev, ⟨%W, Ho⟩⟩ Hk
  iapply (Transfers.wp_waitLocalO EC 𝒱₀ (c : Thread nD τ) none () (kvN_eq kv o h) (O := O₀ c) (W := W)) $$ [Hfl Ho]
  · isplitl [Hfl]; · iexact Hfl
    isplitl [Ho]; · iexact Ho
    iapply (mayWait_low c (kvQ kv t.val) (kvQ_ne_recv kv t.val) (O₀ c) (.inl rfl)); iexact Hlev
  iintro ⟨⟨Hb, Hh⟩, Hz, Ho⟩
  iapply Hk
  isplitl [Hb]; · iexact Hb
  isplitl [Hz]; · iexact Hz
  isplitl [Hh Hrest]
  · iapply (pointsTo_split_subset (Finset.subset_univ (kvH kv c t).view.set)).2
    isplitl [Hh] <;> iassumption
  iexists _; iexact Ho

omit [FloatOps F] in
theorem kvB_set (kv : Bool) (b : ℕ) (h : ∀ a, kvO b a + S1x2048x1x128.size a ≤ S2x2048x1x128.size a) :
    (kvM kv).view.setOn (Rect.unit (s := S2x2048x1x128) (kvO b) S1x2048x1x128.size h).toLoadRect.set = (kvB kv b).view.set := by
  show _ = (((kvM kv).slice (Rect.unit (s := S2x2048x1x128) (kvO b) S1x2048x1x128.size h) (fun _ => rfl)).view.reshape S2048x1x128 squeezes_S1x2048x1x128_S2048x1x128.numel_eq).set
  rw [View.set_reshape]
  exact (View.set_slice _ _).symm

/-- A filled buffer loaded. -/
theorem wp_load_kv (kv : Bool) (t : Fin grid0.N) (o : Fin 4 → Nat) (h : ∀ a, o a + S1x2048x1x128.size a ≤ S2x2048x1x128.size a) (eo : o = kvO t.val)
    {hl : (kvM kv).view.LoadsAt (Rect.unit (s := S2x2048x1x128) o S1x2048x1x128.size h).toLoadRect}
    {k : Vec F S1x2048x1x128 .f32 → Prog (TpuEff nD τ sig (Elt F) Λ₀ .tc) α} :
    (owns (c : Thread nD τ) (kvB kv t.val) fullShare (kvSq m kv c t) : sProp 𝕄)
      ⊢ iprop((owns (c : Thread nD τ) (kvB kv t.val) fullShare (kvSq m kv c t) -∗ wp frame (wpE (defs₀ (F := F)) 𝒱₀ (c : Thread nD τ) none) Set.univ (k (kS m kv c t)) Q)
      -∗ wp frame (wpE (defs₀ (F := F)) 𝒱₀ (c : Thread nD τ) none) Set.univ
          (.op (.load (kvM kv) (Rect.unit (s := S2x2048x1x128) o S1x2048x1x128.size h).toLoadRect hl) k) Q) := by
  subst eo
  unfold owns kS
  iintro ⟨%f, %hf, H⟩ Hk
  iapply (wp_load 𝒱₀ (c : Thread nD τ) none Set.univ (m := kvM kv) (S := (kvB kv t.val).view.set) (f := f) (kvB_set kv t.val h).subset) $$ H
  iintro H
  rw [readAt_kv kv (kvO t.val) h f, hf]
  iapply Hk
  iexists f
  isplitr; · ipureintro; exact hf
  iexact H

end Wp

/-! ## The context buffer -/

/-- The context buffer's contents up to head `t` and, of head `t`, the first `n` tiles. -/
def AgreeT (c : Dev nD) (f : Vec F S2048x1024 .bf16) (t n : ℕ) : Prop :=
  ∀ i, ((i 1).val < 128 * t ∨ ((i 1).val < 128 * (t + 1) ∧ (i 0).val < 512 * n)) → f i = ctxv m c i

theorem ctxv_tile (c : Dev nD) (t : Fin grid0.N) (j : Fin 4) (h : ∀ a, tileO t.val j.val a + S512x128.size a ≤ S2048x1024.size a)
    (y : (tileR (tileO t.val j.val) h).shape.Idx) : ctxv m c ((tileR (tileO t.val j.val) h).idx y) = tileV m c t j y := by
  have y0 : (y 0).val < 512 := (y 0).isLt
  have y1 : (y 1).val < 128 := (y 1).isLt
  have e0 : ((tileR (tileO t.val j.val) h).idx y 0).val = 512 * j.val + 1 * (y 0).val := rfl
  have e1 : ((tileR (tileO t.val j.val) h).idx y 1).val = 128 * t.val + 1 * (y 1).val := rfl
  have key : ∀ (A : Fin grid0.N) (B : Fin 4) (I : S512x128.Idx), A = t → B = j → I = y → tileV m c A B I = tileV m c t j y := by
    intro A B I hA hB hI; subst hA hB hI; rfl
  unfold ctxv
  refine key _ _ _ (Fin.ext ?_) (Fin.ext ?_) (funext fun a => ?_)
  · show ((tileR (tileO t.val j.val) h).idx y 1).val / 128 = t.val
    rw [e1]; omega
  · show ((tileR (tileO t.val j.val) h).idx y 0).val / 512 = j.val
    rw [e0]; omega
  · match a with
    | ⟨0, _⟩ =>
      apply Fin.ext
      show ((tileR (tileO t.val j.val) h).idx y 0).val % 512 = (y 0).val
      rw [e0]; omega
    | ⟨1, _⟩ =>
      apply Fin.ext
      show ((tileR (tileO t.val j.val) h).idx y 1).val % 128 = (y 1).val
      rw [e1]; omega

theorem ctx_set (r : Rect S2048x1024) : (ctxM.view.slice r).set = r.set := View.set_slice_whole cc0_scratch1 r

theorem agree_write (c : Dev nD) (t : Fin grid0.N) (j : Fin 4) (h : ∀ a, tileO t.val j.val a + S512x128.size a ≤ S2048x1024.size a)
    (f : Vec F S2048x1024 .bf16) (hf : AgreeT m c f t.val j.val) :
    AgreeT m c ((ctxM.access (tileR (tileO t.val j.val) h) : View sig .tc _ _ _).write (Elt F) f (tileV m c t j) Finset.univ) t.val (j.val + 1) := by
  intro i hi
  show (ctxM.view.slice (tileR (tileO t.val j.val) h)).write (Elt F) f (tileV m c t j) Finset.univ i = _
  by_cases hm : i ∈ (tileR (tileO t.val j.val) h).set
  · obtain ⟨y, rfl⟩ := LoadRect.exists_idx_of_mem _ hm
    rw [ctxv_tile]
    exact View.write_emb_of_mem (v := ctxM.view.slice (tileR (tileO t.val j.val) h)) f (tileV m c t j) (Finset.mem_univ y)
  · rw [View.write_of_not_mem (v := ctxM.view.slice (tileR (tileO t.val j.val) h)) f (tileV m c t j) Finset.univ
      (by rw [View.setOn_univ, ctx_set]; exact hm)]
    refine hf i ?_
    by_contra hn
    refine hm ((LoadRect.mem_set _).mpr fun a => ?_)
    have i0 : (i 0).val < 2048 := (i 0).isLt
    match a with
    | ⟨0, _⟩ =>
      refine ⟨(i 0).val - 512 * j.val, ?_, ?_⟩
      · show (i 0).val - 512 * j.val < 512; omega
      · show (i 0).val = 512 * j.val + 1 * ((i 0).val - 512 * j.val); omega
    | ⟨1, _⟩ =>
      refine ⟨(i 1).val - 128 * t.val, ?_, ?_⟩
      · show (i 1).val - 128 * t.val < 128; omega
      · show (i 1).val = 128 * t.val + 1 * ((i 1).val - 128 * t.val); omega

theorem agreeT_start (c : Dev nD) (f : Vec F S2048x1024 .bf16) (t : ℕ) (h : Agree m c f t) : AgreeT m c f t 0 :=
  fun i hi => h i (by omega)
theorem agreeT_end (c : Dev nD) (f : Vec F S2048x1024 .bf16) (t : ℕ) (h : AgreeT m c f t 4) : Agree m c f (t + 1) :=
  fun i hi => h i (.inr ⟨hi, by have := (i 0).isLt; change (i 0).val < 2048 at this; omega⟩)

/-- The context buffer held with its first heads' columns as they should be. -/
def ctxIs (c : Dev nD) (t n : ℕ) : sProp 𝕄 :=
  iprop(∃ f : Buf (Elt F) ((c : Thread nD τ).loc cc0_scratch1), ⌜AgreeT (F := F) m c f t n⌝ ∗ (((c : Thread nD τ).loc cc0_scratch1) ↦{fullShare} f))

section Pieces
variable (c : Dev nD) {Q : PUnit → sProp (MT nD τ sig Unit (Elt F) ℕ UU ℕ)}

/-- One tile stored. -/
theorem tile_spec (t : Fin grid0.N) (j : Fin 4) (o : Fin 2 → Nat) (h : ∀ a, o a + S512x128.size a ≤ S2048x1024.size a)
    (hp : (tileR o h).PackedRows (EltTy.packing .bf16)) (eo : o = tileO t.val j.val) (w : FVec F S512x128 .bf16) (hw : w = tileV m c t j) :
    iprop(ctxIs m c t.val j.val ∗ (ctxIs m c t.val (j.val + 1) -∗ Q ⟨⟩))
      ⊢ wp frame (wpE (defs₀ (F := F)) 𝒱₀ (c : Thread nD τ) none) Set.univ (tileP (F := F) o h hp w) Q := by
  subst eo hw
  unfold tileP ctxIs
  simp only [Prog.lift, Prog.bind_op, Prog.bind_ret, Prog.pure_eq_ret]
  iintro ⟨⟨%f, %hf, H⟩, Hk⟩
  iapply (wp_load 𝒱₀ (c : Thread nD τ) none Set.univ (m := ctxM) (Finset.subset_univ _)) $$ H; iintro H
  iapply (wp_store 𝒱₀ (c : Thread nD τ) none Set.univ (m := ctxM) (r := tileR (tileO t.val j.val) h) (Mk := Finset.univ) (Finset.subset_univ _)) $$ H; iintro H
  rw [wp_ret]; imodintro
  iapply Hk
  iexists _
  isplitr
  · ipureintro; exact agree_write m c t j h f hf
  iexact H

/-- Both copies of head `t` in flight. -/
def fly2 (t : Fin grid0.N) : sProp 𝕄 := iprop(kvFly m false c t ∗ kvFly m true c t)
/-- Both buffers of parity `b` idle. -/
def idle2 (b : ℕ) : sProp 𝕄 := iprop(kvIdle m false c b ∗ kvIdle m true c b)
theorem idle2_congr (b b' : ℕ) (h : b % 2 = b' % 2) : idle2 m c b = idle2 m c b' := by
  unfold idle2; rw [kvIdle_congr m false c b b' h, kvIdle_congr m true c b b' h]
/-- The buffers of head `t` as grid point `t` finds them: idle before the first head and after the last, else being filled. -/
def cur2 (t : ℕ) : sProp 𝕄 := if h : 0 < t ∧ t < grid0.N then fly2 m c ⟨t, h.2⟩ else idle2 m c t

/-- The first head's copies started, at the first grid point. -/
theorem start0_spec (t : Fin grid0.N) :
    iprop(cur2 m c t.val ∗ (fly2 m c t -∗ Q ⟨⟩))
      ⊢ wp frame (wpE (defs₀ (F := F)) 𝒱₀ (c : Thread nD τ) none) Set.univ (start0P (F := F) (grid0.coords t) c) Q := by
  unfold start0P cur2
  by_cases h0 : t.val = 0
  · rw [dif_pos ((cond1_iff t).mpr h0), dif_neg (by omega)]
    unfold kvStart idle2 fly2
    simp only [Prog.lift, Prog.bind_op, Prog.bind_ret, Prog.pure_eq_ret]
    iintro ⟨⟨H1, H2⟩, Hk⟩
    iapply (wp_kvStart m c false t _ _ _ _ _ _ (by rw [h0]; rfl) (by rw [h0]; rfl) (by rw [h0]; exact off1_eq c)) $$ H1; iintro H1
    iapply (wp_kvStart m c true t _ _ _ _ _ _ (by rw [h0]; rfl) (by rw [h0]; rfl) (by rw [h0]; exact off1_eq c)) $$ H2; iintro H2
    rw [wp_ret]; imodintro
    iapply Hk
    isplitl [H1] <;> iassumption
  · rw [dif_neg (fun h => h0 ((cond1_iff t).mp h)), dif_pos ⟨by omega, t.isLt⟩]
    rw [Prog.pure_eq_ret, wp_ret]
    iintro ⟨H, Hk⟩
    imodintro
    iapply Hk $$ H

/-- The next head's copies started, at every grid point but the last. -/
theorem startN_spec (t : Fin grid0.N) :
    iprop(idle2 m c (t.val + 1) ∗ (cur2 m c (t.val + 1) -∗ Q ⟨⟩))
      ⊢ wp frame (wpE (defs₀ (F := F)) 𝒱₀ (c : Thread nD τ) none) Set.univ (startNP (F := F) (grid0.coords t) c) Q := by
  unfold startNP cur2
  by_cases h0 : t.val + 1 < 8
  · have hN : t.val + 1 < grid0.N := lt_of_lt_of_eq h0 N_0.symm
    rw [dif_pos ((cond2_iff t).mpr h0), dif_pos ⟨by omega, hN⟩]
    unfold kvStart idle2 fly2
    simp only [Prog.lift, Prog.bind_op, Prog.bind_ret, Prog.pure_eq_ret]
    iintro ⟨⟨H1, H2⟩, Hk⟩
    iapply (wp_kvStart m c false ⟨t.val + 1, hN⟩ _ _ _ _ _ _ (off2_eq t) (off3_eq t) (off4_eq t c)) $$ H1; iintro H1
    iapply (wp_kvStart m c true ⟨t.val + 1, hN⟩ _ _ _ _ _ _ (off5_eq t) (off3_eq t) (off4_eq t c)) $$ H2; iintro H2
    rw [wp_ret]; imodintro
    iapply Hk
    isplitl [H1] <;> iassumption
  · rw [dif_neg (fun h => h0 ((cond2_iff t).mp h)), dif_neg (fun h => by have := N_0; omega)]
    rw [Prog.pure_eq_ret, wp_ret]
    iintro ⟨H, Hk⟩
    imodintro
    iapply Hk $$ H

omit [FloatOps F] in
theorem read_x (f : Vec F S1x2048x1024 .f32) :
    xM.view.readAt (Elt F) (Rect.unit (s := S1x2048x1024) ![0, 0, 0] S1x2048x1024.size inb_S1x2048x1024_S1x2048x1024_0_0_0).toLoadRect f = f :=
  Memref.readAt_unit_zero (Elt F) cc0_stg0_0 hz3 _ f
omit [FloatOps F] in
theorem read_wq (f : Vec F S1024x1024 .f32) :
    wqM.view.readAt (Elt F) (Rect.unit (s := S1024x1024) ![0, 0] S1024x1024.size inb_S1024x1024_S1024x1024_0_0).toLoadRect f = f :=
  Memref.readAt_unit_zero (Elt F) cc0_stg1_0 hz2 _ f
omit [FloatOps F] in
theorem write_qM (f w : Vec F S2048x1024 .bf16) :
    (qM.access (Rect.unit (s := S2048x1024) ![0, 0] S2048x1024.size inb_S2048x1024_S2048x1024_0_0) : View sig .tc _ _ _).write (Elt F) f w Finset.univ = w :=
  Memref.write_access_unit_zero_univ (Elt F) cc0_scratch0 hz2 _ f w

/-- The query buffer held, at all queries once `0 < t`. -/
def qIs (t : ℕ) : sProp 𝕄 :=
  iprop(∃ f : Buf (Elt F) ((c : Thread nD τ).loc cc0_scratch0), ⌜0 < t → f = (qv m c : Vec F S2048x1024 .bf16)⌝ ∗ (((c : Thread nD τ).loc cc0_scratch0) ↦{fullShare} f))

/-- All queries computed, at the first grid point. -/
theorem query_spec (t : Fin grid0.N) (x : Buf (Elt F) ((c : Thread nD τ).loc cc0_stg0_0)) (wq : Buf (Elt F) ((c : Thread nD τ).loc cc0_stg1_0))
    (hx : x = (iblk m c 0 t : Vec F S1x2048x1024 .f32)) (hwq : wq = (iblk m c 1 t : Vec F S1024x1024 .f32)) :
    iprop(qIs m c t.val ∗ (((c : Thread nD τ).loc cc0_stg0_0) ↦{fullShare} x) ∗ (((c : Thread nD τ).loc cc0_stg1_0) ↦{fullShare} wq)
        ∗ ((qIs m c (t.val + 1) ∗ (((c : Thread nD τ).loc cc0_stg0_0) ↦{fullShare} x) ∗ (((c : Thread nD τ).loc cc0_stg1_0) ↦{fullShare} wq)) -∗ Q ⟨⟩))
      ⊢ wp frame (wpE (defs₀ (F := F)) 𝒱₀ (c : Thread nD τ) none) Set.univ (queryP (F := F) (grid0.coords t)) Q := by
  unfold queryP qIs
  by_cases h0 : t.val = 0
  · obtain rfl : t = t0_0 := Fin.ext h0
    rw [dif_pos ((first_iff t0_0).mpr h0)]
    simp only [Prog.lift, Prog.bind_op, Prog.bind_ret, Prog.pure_eq_ret]
    iintro ⟨⟨%f, -, Hq⟩, Hx, Hw, Hk⟩
    iapply (wp_load 𝒱₀ (c : Thread nD τ) none Set.univ (m := xM) (Finset.subset_univ _)) $$ Hx; iintro Hx
    rw [read_x]
    iapply (wp_load 𝒱₀ (c : Thread nD τ) none Set.univ (m := wqM) (Finset.subset_univ _)) $$ Hw; iintro Hw
    rw [read_wq]
    iapply (wp_load 𝒱₀ (c : Thread nD τ) none Set.univ (m := qM) (Finset.subset_univ _)) $$ Hq; iintro Hq
    iapply (wp_store 𝒱₀ (c : Thread nD τ) none Set.univ (m := qM) (r := Rect.unit (s := S2048x1024) ![0, 0] S2048x1024.size inb_S2048x1024_S2048x1024_0_0) (Mk := Finset.univ) (Finset.subset_univ _)) $$ Hq; iintro Hq
    rw [write_qM, wp_ret]; imodintro
    iapply Hk
    isplitl [Hq]
    · iexists _
      isplitr; swap; · iexact Hq
      ipureintro; intro _; rw [hx, hwq]; rfl
    isplitl [Hx] <;> iassumption
  · rw [dif_neg (fun h => h0 ((first_iff t).mp h))]
    rw [Prog.pure_eq_ret, wp_ret]
    iintro ⟨⟨%f, %hf, Hq⟩, Hx, Hw, Hk⟩
    imodintro
    iapply Hk
    isplitl [Hq]
    · iexists f
      isplitr; · ipureintro; intro _; exact hf (by omega)
      iexact Hq
    isplitl [Hx] <;> iassumption

omit [FloatOps F] in
theorem idle_of_owns (kv : Bool) (b : ℕ) (X : Vec F S2048x1x128 .f32) :
    (owns (c : Thread nD τ) (kvB kv b) fullShare X : sProp 𝕄) ⊢ iprop(∃ f, (kvB kv b).view.loc (c : Thread nD τ) ↦[(kvB kv b).view.set]{fullShare} f) := by
  unfold owns
  iintro ⟨%f, -, H⟩
  iexists f; iexact H

/-- One head. -/
theorem head_spec (t : Fin grid0.N) :
    iprop(levAts L lv ∗ fly2 m c t ∗ qIs m c (t.val + 1) ∗ ctxIs m c t.val 0 ∗ owed c (O₀ c)
        ∗ ((idle2 m c t.val ∗ qIs m c (t.val + 1) ∗ ctxIs m c t.val 4 ∗ owed c (O₀ c)) -∗ Q ⟨⟩))
      ⊢ wp frame (wpE (defs₀ (F := F)) 𝒱₀ (c : Thread nD τ) none) Set.univ (headP (F := F) (grid0.coords t) c) Q := by
  unfold headP kvWait fly2 qIs
  simp only [Prog.lift, Prog.bind_op, Prog.bind_ret, Prog.pure_eq_ret]
  iintro ⟨#Hlev, ⟨H1, H2⟩, ⟨%q, %hq, Hq⟩, Hc, Ho, Hk⟩
  obtain rfl := hq (Nat.succ_pos _)
  iapply (wp_kvWait m c false t _ _ _ _ _ _ (off6_eq t)) $$ [H1 Ho]
  · isplitl [H1]; · iexact H1
    isplitr; · iexact Hlev
    iexact Ho
  iintro ⟨Hb1, Hz1, Ha1, Ho⟩
  iapply (wp_kvWait m c true t _ _ _ _ _ _ (off9_eq t)) $$ [H2 Ho]
  · isplitl [H2]; · iexact H2
    isplitr; · iexact Hlev
    iexact Ho
  iintro ⟨Hb2, Hz2, Ha2, Ho⟩
  iapply (wp_load_kv m c false t _ _ (off10_eq t)) $$ Hb1; iintro Hb1
  iapply (wp_load_kv m c true t _ _ (off10_eq t)) $$ Hb2; iintro Hb2
  iapply (wp_load 𝒱₀ (c : Thread nD τ) none Set.univ (m := qM) (Finset.subset_univ _)) $$ Hq; iintro Hq
  have eq : ∀ (o : Fin 2 → ℕ) (h : ∀ a, o a + S2048x128.size a ≤ S2048x1024.size a), o = tileO t.val 0 →
      qM.view.readAt (Elt F) (Rect.unit (s := S2048x1024) o S2048x128.size h).toLoadRect (qv m c) = qS m c t := by
    intro o h e; subst e; rfl
  rw [eq _ _ (off11_eq t)]
  simp only [wp_bind]
  iapply (tile_spec m c t 0 _ _ _ (off12_eq t) _ rfl)
  isplitl [Hc]; · iexact Hc
  iintro Hc
  iapply (tile_spec m c t 1 _ _ _ (off13_eq t) _ rfl)
  isplitl [Hc]; · iexact Hc
  iintro Hc
  iapply (tile_spec m c t 2 _ _ _ (off14_eq t) _ rfl)
  isplitl [Hc]; · iexact Hc
  iintro Hc
  iapply (tile_spec m c t 3 _ _ _ (off15_eq t) _ rfl)
  isplitl [Hc]; · iexact Hc
  iintro Hc
  iapply Hk
  unfold idle2 kvIdle
  isplitl [Hb1 Hz1 Ha1 Hb2 Hz2 Ha2]
  · isplitl [Hb1 Hz1 Ha1]
    · isplitl [Hb1]; · iapply (idle_of_owns c false t.val _) $$ Hb1
      isplitl [Hz1] <;> iassumption
    isplitl [Hb2]; · iapply (idle_of_owns c true t.val _) $$ Hb2
    isplitl [Hz2] <;> iassumption
  isplitl [Hq]
  · iexists _
    isplitr; swap; · iexact Hq
    ipureintro; intro _; rfl
  isplitl [Hc]; · iexact Hc
  iexact Ho

end Pieces

end Cert.KernelIdeal.Own

end
-- ==== Proof.KernelIdealBody.lean ====
/-
  The pipeline's data and the body's obligation: what is held before each of the eight grid points, and that the body takes
  one to the next.
-/
module

public import proofs.«01_k».proof.Proof.KernelIdealAttn

@[expose] public section

set_option maxRecDepth 16384

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The exchange's part before point `t`: all of it to come, or done. -/
def gate (c : Dev nD) (t : ℕ) : sProp 𝕄 :=
  if t < 8 then iprop((∃ K, records m K) ∗ levAts L lv ∗ ringStart (F := F) c) else ringEnd (F := F) c

/-- What is held before point `t`. -/
def PhiAt (c : Dev nD) (t : ℕ) : sProp 𝕄 :=
  iprop(gate m c t ∗ qIs m c t ∗ ctxIs m c t 0 ∗ cur2 m c t ∗ idle2 m c (t + 1))

/-- What is owed before point `t`. -/
def owedAt (c : Dev nD) (t : ℕ) : CellTallies nD τ sig Unit := if t < 8 then O₀ c else 0

/-- The pipeline's data on device `c`. -/
def dats (_ : Fin 1) (c : Dev nD) : Dat τ (Elt F) Unit ℕ UU ℕ cfg0 c where
  A w := m ((cfg0.win w).arr.view.loc (c : Thread nD τ))
  after w t := match w with
    | ⟨0, _⟩ => iblk m c 0 t
    | ⟨1, _⟩ => iblk m c 1 t
    | ⟨2, _⟩ => iblk m c 2 t
    | ⟨3, _⟩ => outF m c
  Φ t := PhiAt m c t.val
  q _ := fullShare
  owed t := owedAt c t.val

theorem before_0 (c : Dev nD) (t : Fin cfg0.N) (d) : (dats m 0 c).before (0 : Fin 4) t d = iblk m c 0 t :=
  ((dats m 0 c).before_in_eq_fetched (0 : Fin 4) rfl (fun _ => rfl) (fun _ _ _ => rfl) (fun t => rfl) t d).trans rfl
theorem before_1 (c : Dev nD) (t : Fin cfg0.N) (d) : (dats m 0 c).before (1 : Fin 4) t d = iblk m c 1 t :=
  ((dats m 0 c).before_in_eq_fetched (1 : Fin 4) rfl (fun _ => rfl) (fun _ _ _ => rfl) (fun t => rfl) t d).trans rfl
theorem before_2 (c : Dev nD) (t : Fin cfg0.N) (d) : (dats m 0 c).before (2 : Fin 4) t d = iblk m c 2 t :=
  ((dats m 0 c).before_in_eq_fetched (2 : Fin 4) rfl (fun _ => rfl) (fun _ _ _ => rfl) (fun t => rfl) t d).trans rfl

omit [FloatOps F] in
theorem owns_whole_eq (c : Dev nD) (b : Ref sig .tc) (X : b.ty.Contents (Elt F)) :
    (owns (c : Thread nD τ) (Memref.whole b) fullShare X : sProp 𝕄)
      = iprop(∃ f : Buf (Elt F) ((c : Thread nD τ).loc b), ⌜f = X⌝ ∗ (((c : Thread nD τ).loc b) ↦{fullShare} f)) := by
  unfold owns
  rw [View.set_whole]; rfl

theorem stg0_eq (s) : stage0_0 s = Memref.whole cc0_stg0_0 := by
  obtain rfl : s = (0 : Fin 1) := Subsingleton.elim (α := Fin 1) _ _
  rfl
theorem stg1_eq (s) : stage0_1 s = Memref.whole cc0_stg1_0 := by
  obtain rfl : s = (0 : Fin 1) := Subsingleton.elim (α := Fin 1) _ _
  rfl
theorem stg2_eq (s) : stage0_2 s = Memref.whole cc0_stg2_0 := by
  obtain rfl : s = (0 : Fin 1) := Subsingleton.elim (α := Fin 1) _ _
  rfl
theorem stg3_eq (s) : stage0_3 s = Memref.whole cc0_stg3_0 := by
  obtain rfl : s = (0 : Fin 1) := Subsingleton.elim (α := Fin 1) _ _
  rfl

/-- The result's staging buffer after point `t`: as found before the last point, the result after it. -/
def outAfter (c : Dev nD) (t : ℕ) (X : Vec F S2048x1024 .f32) : sProp 𝕄 :=
  iprop((((c : Thread nD τ).loc cc0_stg3_0) ↦{fullShare} ((if t = 7 then outF m c else X : Vec F S2048x1024 .f32) : Buf (Elt F) ((c : Thread nD τ).loc cc0_stg3_0))))

/-- The last point's exchange, or nothing. -/
theorem tail_spec (c : Dev nD) (t : Fin grid0.N) {Q : PUnit → sProp (MT nD τ sig Unit (Elt F) ℕ UU ℕ)}
    (wo : Buf (Elt F) ((c : Thread nD τ).loc cc0_stg2_0)) (hwo : wo = (iblk m c 2 t : Vec F S1024x1024 .f32)) (X : Vec F S2048x1024 .f32) :
    iprop(gate m c t.val ∗ owed c (O₀ c) ∗ ctxIs m c t.val 4 ∗ (((c : Thread nD τ).loc cc0_stg2_0) ↦{fullShare} wo)
        ∗ (((c : Thread nD τ).loc cc0_stg3_0) ↦{fullShare} (X : Buf (Elt F) ((c : Thread nD τ).loc cc0_stg3_0)))
        ∗ ((gate m c (t.val + 1) ∗ owed c (owedAt c (t.val + 1)) ∗ ctxIs m c (t.val + 1) 0 ∗ (((c : Thread nD τ).loc cc0_stg2_0) ↦{fullShare} wo)
            ∗ outAfter m c t.val X) -∗ Q ⟨⟩))
      ⊢ wp frame (wpE (defs₀ (F := F)) 𝒱₀ (c : Thread nD τ) none) Set.univ
          (if h4 : k0_cond4 (grid0.coords t) = 1#1 then lastP (F := F) (grid0.coords t) c h4 else pure ⟨⟩) Q := by
  have htl : t.val < 8 := lt_of_lt_of_eq t.isLt N_0
  unfold gate ctxIs outAfter owedAt
  rw [if_pos htl]
  by_cases h7 : t.val = 7
  · obtain rfl : t = t0_7 := Fin.ext h7
    rw [dif_pos ((cond4_iff t0_7).mpr h7), if_neg (by show ¬ (7 + 1 < 8); decide), if_neg (by show ¬ (7 + 1 < 8); decide), if_pos h7]
    iintro ⟨⟨⟨%K, #HK⟩, #Hlev, Hr⟩, Ho, ⟨%f, %hf, Hc⟩, Hw, Hs, Hk⟩
    have e : f = ctxv m c := agree_all m c f (agreeT_end m c f 7 hf)
    subst e
    iapply (last_spec m K c (grid0.coords t0_7) _ wo hwo)
    isplitr; · iexact HK
    isplitr; · iexact Hlev
    isplitl [Hr]; · iexact Hr
    isplitl [Ho]; · iexact Ho
    isplitl [Hc]; · iexact Hc
    isplitl [Hw]; · iexact Hw
    isplitl [Hs]; · iexists _; iexact Hs
    iintro ⟨Hr, Ho, Hc, Hw, Hs⟩
    iapply Hk
    isplitl [Hr]; · iexact Hr
    isplitl [Ho]; · iexact Ho
    isplitl [Hc]
    · iexists _
      isplitr; swap; · iexact Hc
      ipureintro; exact fun i _ => rfl
    isplitl [Hw] <;> iassumption
  · rw [dif_neg (fun h => h7 ((cond4_iff t).mp h)), if_pos (by omega), if_pos (by omega), if_neg h7, Prog.pure_eq_ret, wp_ret]
    iintro ⟨Hg, Ho, ⟨%f, %hf, Hc⟩, Hw, Hs, Hk⟩
    imodintro
    iapply Hk
    isplitl [Hg]; · iexact Hg
    isplitl [Ho]; · iexact Ho
    isplitl [Hc]
    · iexists _
      isplitr; swap; · iexact Hc
      ipureintro; exact agreeT_start m c f _ (agreeT_end m c f _ hf)
    isplitl [Hw] <;> iassumption

theorem gate_lev (c : Dev nD) (t : Fin grid0.N) : gate m c t.val ⊢ iprop(levAts L lv ∗ gate m c t.val) := by
  have htl : t.val < 8 := lt_of_lt_of_eq t.isLt N_0
  unfold gate
  rw [if_pos htl]
  iintro ⟨HK, #Hlev, Hr⟩
  isplitr; · iexact Hlev
  isplitl [HK]; · iexact HK
  isplitr; · iexact Hlev
  iexact Hr

set_option maxHeartbeats 800000 in
/-- The body at point `t`. -/
theorem sound_body (c : Dev nD) (t : Fin grid0.N) {Q : PUnit → sProp (MT nD τ sig Unit (Elt F) ℕ UU ℕ)}
    (x : Buf (Elt F) ((c : Thread nD τ).loc cc0_stg0_0)) (wq : Buf (Elt F) ((c : Thread nD τ).loc cc0_stg1_0)) (wo : Buf (Elt F) ((c : Thread nD τ).loc cc0_stg2_0))
    (hx : x = (iblk m c 0 t : Vec F S1x2048x1024 .f32)) (hwq : wq = (iblk m c 1 t : Vec F S1024x1024 .f32)) (hwo : wo = (iblk m c 2 t : Vec F S1024x1024 .f32))
    (X : Vec F S2048x1024 .f32) :
    iprop(PhiAt m c t.val ∗ owed c (O₀ c) ∗ (((c : Thread nD τ).loc cc0_stg0_0) ↦{fullShare} x) ∗ (((c : Thread nD τ).loc cc0_stg1_0) ↦{fullShare} wq)
        ∗ (((c : Thread nD τ).loc cc0_stg2_0) ↦{fullShare} wo) ∗ (((c : Thread nD τ).loc cc0_stg3_0) ↦{fullShare} (X : Buf (Elt F) ((c : Thread nD τ).loc cc0_stg3_0)))
        ∗ ((PhiAt m c (t.val + 1) ∗ owed c (owedAt c (t.val + 1)) ∗ (((c : Thread nD τ).loc cc0_stg0_0) ↦{fullShare} x) ∗ (((c : Thread nD τ).loc cc0_stg1_0) ↦{fullShare} wq)
            ∗ (((c : Thread nD τ).loc cc0_stg2_0) ↦{fullShare} wo) ∗ outAfter m c t.val X) -∗ Q ⟨⟩))
      ⊢ wp frame (wpE (defs₀ (F := F)) 𝒱₀ (c : Thread nD τ) none) Set.univ (bodyP (F := F) (grid0.coords t)) Q := by
  unfold bodyP PhiAt
  simp only [Prog.lift, Prog.bind_op, Prog.bind_ret, wp_deviceId]
  simp only [wp_bind]
  iintro ⟨⟨Hg, Hq, Hc, Hcur, Hidle⟩, Ho, Hx, Hwq, Hwo, Hout, Hk⟩
  ihave Hg' := (gate_lev m c t) $$ Hg
  icases Hg' with ⟨#Hlev, Hg⟩
  iapply (start0_spec m c t)
  isplitl [Hcur]; · iexact Hcur
  iintro Hfly
  iapply (startN_spec m c t)
  isplitl [Hidle]; · iexact Hidle
  iintro Hnext
  iapply (query_spec m c t x wq hx hwq)
  isplitl [Hq]; · iexact Hq
  isplitl [Hx]; · iexact Hx
  isplitl [Hwq]; · iexact Hwq
  iintro ⟨Hq, Hx, Hwq⟩
  iapply (head_spec m c t)
  isplitr; · iexact Hlev
  isplitl [Hfly]; · iexact Hfly
  isplitl [Hq]; · iexact Hq
  isplitl [Hc]; · iexact Hc
  isplitl [Ho]; · iexact Ho
  iintro ⟨Hidle, Hq, Hc, Ho⟩
  iapply (tail_spec m c t wo hwo X)
  isplitl [Hg]; · iexact Hg
  isplitl [Ho]; · iexact Ho
  isplitl [Hc]; · iexact Hc
  isplitl [Hwo]; · iexact Hwo
  isplitl [Hout]; · iexact Hout
  iintro ⟨Hg, Ho, Hc, Hwo, Hout⟩
  iapply Hk
  isplitl [Hg Hq Hc Hnext Hidle]
  · isplitl [Hg]; · iexact Hg
    isplitl [Hq]; · iexact Hq
    isplitl [Hc]; · iexact Hc
    isplitl [Hnext]; · iexact Hnext
    ihave Hi := (Entails.of_eq (idle2_congr m c t.val (t.val + 1 + 1) (by omega))) $$ Hidle
    iexact Hi
  isplitl [Ho]; · iexact Ho
  isplitl [Hx]; · iexact Hx
  isplitl [Hwq]; · iexact Hwq
  isplitl [Hwo] <;> iassumption

theorem idle_3 (t : Fin cfg0.N) : cfg0.idle (3 : Fin 4) (cfg0.grid.coords t) = !decide (t.val = 7) := by
  show (!(k0_cond4 (grid0.coords t) == 1#1)) = _
  by_cases h : t.val = 7
  · rw [(cond4_iff t).mpr h, decide_eq_true h]; rfl
  · rw [decide_eq_false h]
    have : k0_cond4 (grid0.coords t) ≠ 1#1 := fun h' => h ((cond4_iff t).mp h')
    rw [beq_eq_false_iff_ne.mpr this]
theorem flush_3 (t : Fin cfg0.N) : (cfg0.win (3 : Fin 4)).flush t = decide (t.val = 7) := by
  have htl : t.val < 8 := lt_of_lt_of_eq t.isLt N_0
  by_cases h : t.val = 7
  · rw [decide_eq_true h]; exact (flush0_3 t).mpr (by omega)
  · rw [decide_eq_false h]
    exact Bool.eq_false_iff.mpr fun h' => by have := (flush0_3 t).mp h'; omega

/-- What the pipeline holds around point `t`, spelled out. -/
def pre (c : Dev nD) (t : Fin cfg0.N) : sProp 𝕄 :=
  iprop(PhiAt m c t.val ∗ (dats m 0 c).owesAt () t.castSucc
    ∗ (∃ d, owns (c : Thread nD τ) (Memref.whole cc0_stg0_0) fullShare ((dats m 0 c).before (0 : Fin 4) t d))
    ∗ (∃ d, owns (c : Thread nD τ) (Memref.whole cc0_stg1_0) fullShare ((dats m 0 c).before (1 : Fin 4) t d))
    ∗ (∃ d, owns (c : Thread nD τ) (Memref.whole cc0_stg2_0) fullShare ((dats m 0 c).before (2 : Fin 4) t d))
    ∗ (∃ d, owns (c : Thread nD τ) (Memref.whole cc0_stg3_0) fullShare ((dats m 0 c).before (3 : Fin 4) t d)))
def post (c : Dev nD) (t : Fin cfg0.N) : sProp 𝕄 :=
  iprop(PhiAt m c (t.val + 1) ∗ (dats m 0 c).owesAt () t.succ
    ∗ owns (c : Thread nD τ) (Memref.whole cc0_stg0_0) fullShare (iblk m c 0 t : Vec F S1x2048x1024 .f32)
    ∗ owns (c : Thread nD τ) (Memref.whole cc0_stg1_0) fullShare (iblk m c 1 t : Vec F S1024x1024 .f32)
    ∗ owns (c : Thread nD τ) (Memref.whole cc0_stg2_0) fullShare (iblk m c 2 t : Vec F S1024x1024 .f32)
    ∗ (if t.val = 7 then owns (c : Thread nD τ) (Memref.whole cc0_stg3_0) fullShare (outF m c)
        else iprop(∃ d, owns (c : Thread nD τ) (Memref.whole cc0_stg3_0) fullShare ((dats m 0 c).before (3 : Fin 4) t d))))

theorem body_pre_post (c : Dev nD) (t : Fin cfg0.N) :
    pre m c t ⊢ wp frame (wpE (defs₀ (F := F)) 𝒱₀ (c : Thread nD τ) none) Set.univ (bodyAt0 (F := F) t) fun _ => post m c t := by
  have htl : t.val < 8 := lt_of_lt_of_eq t.isLt N_0
  rw [body_eq]
  unfold pre post
  simp only [before_0, before_1, before_2, owns_whole_eq]
  unfold Dat.owesAt Pipeline.owesWithin
  iintro ⟨HΦ, ⟨%W, %hW, HO⟩, ⟨%d0, %x, %hx, Hx⟩, ⟨%d1, %wq, %hwq, Hwq⟩, ⟨%d2, %wo, %hwo, Hwo⟩, ⟨%d3, %X, %hX, Hout⟩⟩
  have ho : (dats m 0 c).owed t.castSucc = O₀ c := by
    show owedAt c t.val = _
    unfold owedAt; rw [if_pos htl]
  rw [ho]
  iapply (sound_body m c t x wq wo hx hwq hwo X)
  isplitl [HΦ]; · iexact HΦ
  isplitl [HO]; · unfold owed; iexists W; iexact HO
  isplitl [Hx]; · iexact Hx
  isplitl [Hwq]; · iexact Hwq
  isplitl [Hwo]; · iexact Hwo
  isplitl [Hout]; · iexact Hout
  unfold owed outAfter
  iintro ⟨HΦ, ⟨%W', HO⟩, Hx, Hwq, Hwo, Hout⟩
  isplitl [HΦ]; · iexact HΦ
  isplitl [HO]
  · iexists W'
    isplitr; · ipureintro; exact fun _ _ => Or.inl trivial
    iexact HO
  isplitl [Hx]
  · iexists x; isplitr; · ipureintro; exact hx
    iexact Hx
  isplitl [Hwq]
  · iexists wq; isplitr; · ipureintro; exact hwq
    iexact Hwq
  isplitl [Hwo]
  · iexists wo; isplitr; · ipureintro; exact hwo
    iexact Hwo
  by_cases h7 : t.val = 7
  · rw [if_pos h7, if_pos h7]
    iexists _; isplitr; swap; · iexact Hout
    ipureintro; rfl
  · rw [if_neg h7, if_neg h7]
    iexists d3, X; isplitr; · ipureintro; exact hX
    iexact Hout

/-- The library's body obligation on device `c`. -/
theorem body_obligation (c : Dev nD) : BodyObligation (dats (F := F) m 0 c) (defs₀ (F := F)) 𝒱₀ () Set.univ := fun t => by
  rw [bigSep_W0, bigSep_W0]
  dsimp only
  rw [stg0_eq, stg1_eq, stg2_eq, stg3_eq]
  have h := body_pre_post m c t
  unfold pre post at h
  refine h.trans ?_
  refine Entails.of_eq ?_
  show wp frame (wpE (defs₀ (F := F)) 𝒱₀ (c : Thread nD τ) none) Set.univ (bodyAt0 (F := F) t) _ = wp frame (wpE (defs₀ (F := F)) 𝒱₀ (c : Thread nD τ) none) Set.univ (bodyAt0 (F := F) t) _
  refine congrArg _ (funext fun _ => ?_)
  have h3 := idle_3 t
  have h4 := flush_3 t
  by_cases h7 : t.val = 7
  · rw [decide_eq_true h7] at h3 h4
    rw [if_pos h7, show idle0 (3 : Fin 4) (grid0.coords t) = false from h3]
    rfl
  · rw [decide_eq_false h7] at h3 h4
    rw [if_neg h7, show idle0 (3 : Fin 4) (grid0.coords t) = true from h3, show (win0 (3 : Fin 4)).flush t = false from h4]
    rfl

end Cert.KernelIdeal.Own

end
-- ==== Proof.KernelIdealGhost.lean ====
/-
  The launch of the exchange: the cells and tokens as minted, dealt around the ring, and the credit each device starts with.
-/
module

public import proofs.«01_k».proof.Proof.KernelIdealBody

@[expose] public section

set_option maxRecDepth 16384

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Sums over the cells -/

omit [FloatOps F] in
theorem bigSep_bool (Φ : Bool → sProp 𝕄) : bigSep Finset.univ Φ = iprop(Φ false ∗ Φ true) := bigSep_univ_eq_bigSepL [false, true] (by decide) (by decide) Φ
omit [FloatOps F] in
theorem bigSep_ci (Φ : CI → sProp 𝕄) : bigSep Finset.univ Φ = iprop(Φ none ∗ bigSep Finset.univ fun x : XI => Φ (some x)) := by
  have h : (Finset.univ : Finset CI) = insert none (Finset.univ.map Function.Embedding.some) := by
    ext x; cases x <;> simp
  rw [h, bigSep_insert (by simp), bigSep_map]; rfl
omit [FloatOps F] in
/-- Over a direction and a hop, hop by hop. -/
theorem bigSep_lt (Φ : Bool → Fin 6 → sProp 𝕄) :
    bigSep Finset.univ (fun x : Bool × Fin 6 => Φ x.1 x.2) = bigSep Finset.univ fun t : Fin 6 => iprop(Φ false t ∗ Φ true t) := by
  rw [bigSep_univ_prod, bigSep_bool, bigSep_sep']
omit [FloatOps F] in
theorem bigSep_xi (Φ : XI → sProp 𝕄) : bigSep Finset.univ Φ
    = iprop((bigSep Finset.univ fun x : Bool × Fin 6 => Φ (false, x.1, x.2)) ∗ bigSep Finset.univ fun x : Bool × Fin 6 => Φ (true, x.1, x.2)) := by
  rw [bigSep_univ_prod, bigSep_bool]

/-! ## The semaphores -/

/-- The kernel's own semaphores: the head copies' and the exchange's. -/
def osem : (Bool × Fin 2) ⊕ XI → SemLoc sig
  | .inl x => .dma (kvQ x.1 x.2.val)
  | .inr x => .dma (xsem x)

theorem ownSemFacts : Pipeline.OwnSemFacts cfg0.spec osem := by decide +kernel

theorem kcell_injective : Function.Injective (kcell : Dev nD × CI → GSem nD τ sig) := by
  rintro ⟨c, k⟩ ⟨c', k'⟩ h
  have h1 : c = c' := congrArg (fun g : GSem nD τ sig => g.1.1) h
  have h2 : csem k = csem k' := congrArg Prod.snd h
  rw [h1, csem_injective h2]
def ringCells : Finset (GSem nD τ sig) := Finset.univ.map ⟨kcell, kcell_injective⟩

/-- A device's own cells' duty tokens as minted: the barrier's two and each transfer's one. -/
def tokOf (cj : Dev nD × (Bool ⊕ XI)) : GSem nD τ sig × ℕ × Bool := match cj.2 with
  | .inl d => (kcell (cj.1, none), 0, d)
  | .inr x => (kcell (cj.1, some x), 0, false)
theorem tokOf_injective : Function.Injective (tokOf : Dev nD × (Bool ⊕ XI) → GSem nD τ sig × ℕ × Bool) := by
  rintro ⟨c, j⟩ ⟨c', j'⟩ h
  rcases j with d | x <;> rcases j' with d' | x'
  · have h1 := kcell_injective (congrArg Prod.fst h)
    have h2 : d = d' := congrArg (fun z : GSem nD τ sig × ℕ × Bool => z.2.2) h
    obtain ⟨rfl, -⟩ := Prod.mk.inj h1
    subst h2; rfl
  · exact absurd (Prod.mk.inj (kcell_injective (congrArg Prod.fst h))).2 (by simp)
  · exact absurd (Prod.mk.inj (kcell_injective (congrArg Prod.fst h))).2 (by simp)
  · have h1 := Prod.mk.inj (kcell_injective (congrArg Prod.fst h))
    obtain ⟨rfl, h2⟩ := h1
    obtain rfl := Option.some.inj h2
    rfl
def ringToks : Finset (GSem nD τ sig × ℕ × Bool) := Finset.univ.map ⟨tokOf, tokOf_injective⟩

def u₀ : UU :=
  (initOf (Pipeline.cells cfgs cellOf_inj) (Pipeline.launchToks cfgs cellOf_inj), (initOf ringCells ringToks, 1))

/-- The duty tokens of device `c`'s own cells. -/
def toks (c : Dev nD) : sProp 𝕄 :=
  iprop((dutyTok ER (barCell c) 0 false ∗ dutyTok ER (barCell c) 0 true)
    ∗ (bigSep Finset.univ fun x : Bool × Fin 6 => dutyTok ER (sendCell x.1 x.2 c) 0 false)
    ∗ bigSep Finset.univ fun x : Bool × Fin 6 => dutyTok ER (recvCell x.1 x.2 c) 0 false)

/-- What the launch deals device `c`. -/
def G (c : Dev nD) : sProp 𝕄 :=
  iprop((bigSep Finset.univ fun k : CI => roundState ER (ringRd m) (kcell (c, k)) 0)
    ∗ (bigSep Finset.univ fun k : CI => atPos ER (kcell (c, k)) 0 ∅ 0) ∗ (bigSep Finset.univ fun k : CI => reached ER (kcell (c, k)) 0) ∗ toks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CI => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by
      unfold toks
      rw [bigSep_univ_sum, bigSep_bool, bigSep_xi]; rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr'] <;> iassumption

/-- The head copies' semaphores at zero. -/
def kvSems (c : Dev nD) : sProp 𝕄 := bigSep Finset.univ fun x : Bool × Fin 2 => semVal ((c : Thread nD τ), .dma (kvQ x.1 x.2.val)) 0

omit [FloatOps F] in
theorem ownSems0_eq (c : Dev nD) : (Pipeline.ownSems0 (Ix := Unit) (Name := ℕ) (U := UU) (Lvl := ℕ) (Val := Elt F) (τ := τ) osem c : sProp 𝕄)
    = iprop(kvSems c ∗ bigSep Finset.univ fun x : XI => semVal (kcell (c, some x)) 0) := by
  unfold Pipeline.ownSems0; rw [bigSep_univ_sum]; rfl
omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (ringRd m) κ (kcell (c, k))))
          ∗ (bigSep Finset.univ fun k : CI => reached ER (kcell (c, k)) 0) ∗ ((bigSep Finset.univ fun k : CI => atPos ER (kcell (c, k)) 0 ∅ 0) ∗ toks c ∗ kvSems c)) := by
  unfold G
  rw [ownSems0_eq, unscopedSems0_eq]
  iintro ⟨⟨Hkv, Hxs⟩, Hus, Hst, Hat, Hr, Htok⟩
  imod (show iprop((bigSep Finset.univ fun k : CI => semVal (kcell (c, k)) 0) ∗ bigSep Finset.univ fun k : CI => roundState ER (ringRd m) (kcell (c, k)) 0)
      ⊢ (|={Set.univ}=> bigSep Finset.univ fun k => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hxs Hus Hst] with Hinv
  · isplitl [Hxs Hus]
    · rw [bigSep_ci]
      isplitl [Hus]; · iexact Hus
      iexact Hxs
    iexact Hst
  imodintro
  isplitl [Hinv]; · iexact Hinv
  isplitl [Hr]; · iexact Hr
  isplitl [Hat]; · iexact Hat
  isplitl [Htok] <;> iassumption

/-- The tokens of the duties device `c` pays. -/
def payToks (c : Dev nD) : sProp 𝕄 :=
  iprop((dutyTok ER (barCell (nxt c)) 0 false ∗ dutyTok ER (barCell (prv c)) 0 true)
    ∗ (bigSep Finset.univ fun x : Bool × Fin 6 => dutyTok ER (sendCell x.1 x.2 c) 0 false)
    ∗ bigSep Finset.univ fun x : Bool × Fin 6 => dutyTok ER (recvCell x.1 x.2 (dst x.1 c)) 0 false)
/-- What stays with device `c`: its places, the tokens of the duties it pays, its head copies' semaphores. -/
def linear (c : Dev nD) : sProp 𝕄 := iprop((bigSep Finset.univ fun k : CI => atPos ER (kcell (c, k)) 0 ∅ 0) ∗ payToks c ∗ kvSems c)
/-- What device `c` starts with. -/
def G' (c : Dev nD) : sProp 𝕄 := iprop((∃ K, records m K) ∗ linear c)

/-- The tokens dealt around the ring. -/
theorem toks_around : (bigSep Finset.univ fun c : Dev nD => (toks c : sProp 𝕄)) ⊢ bigSep Finset.univ fun c : Dev nD => payToks c := by
  have hr : (bigSep Finset.univ fun c : Dev nD => bigSep Finset.univ fun x : Bool × Fin 6 => (dutyTok ER (recvCell x.1 x.2 c) 0 false : sProp 𝕄))
      = bigSep Finset.univ fun c : Dev nD => bigSep Finset.univ fun x : Bool × Fin 6 => dutyTok ER (recvCell x.1 x.2 (dst x.1 c)) 0 false := by
    rw [← bigSep_univ_prod (fun z : Dev nD × (Bool × Fin 6) => (dutyTok ER (recvCell z.2.1 z.2.2 z.1) 0 false : sProp 𝕄)),
      ← bigSep_univ_prod (fun z : Dev nD × (Bool × Fin 6) => (dutyTok ER (recvCell z.2.1 z.2.2 (dst z.2.1 z.1)) 0 false : sProp 𝕄))]
    exact bigSep_univ_equiv ⟨fun z : Dev nD × (Bool × Fin 6) => (dst z.2.1 z.1, z.2), fun z => (src z.2.1 z.1, z.2),
      fun z => by simp only [src_dst], fun z => by simp only [dst_src]⟩ _
  unfold toks payToks
  rw [bigSep_sep', bigSep_sep', bigSep_sep', bigSep_sep', bigSep_sep', bigSep_sep',
    bigSep_univ_equiv ringE (fun c : Dev nD => (dutyTok ER (barCell c) 0 false : sProp 𝕄)),
    bigSep_univ_equiv ringE.symm (fun c : Dev nD => (dutyTok ER (barCell c) 0 true : sProp 𝕄)), hr]
  iintro ⟨⟨H1, H2⟩, H3, H4⟩
  isplitl [H1 H2]
  · isplitl [H1]; · iexact H1
    iexact H2
  isplitl [H3] <;> iassumption

theorem records_ex (K : Dev nD × CI → ℕ) : (records m K : sProp 𝕄) ⊢ iprop(∃ K, records m K) := by
  iintro H; iexists K; iexact H

theorem regroup :
    (bigSep Finset.univ fun c : Dev nD => iprop((bigSep Finset.univ fun k => iprop(∃ κ : ℕ, cellInv ER (ringRd m) κ (kcell (c, k))))
          ∗ (bigSep Finset.univ fun k : CI => reached ER (kcell (c, k)) 0) ∗ ((bigSep Finset.univ fun k : CI => atPos ER (kcell (c, k)) 0 ∅ 0) ∗ toks c ∗ kvSems c)) : sProp 𝕄)
      ⊢ bigSep Finset.univ (G' m) := by
  unfold G' linear
  simp only [bigSep_sep']
  rw [← bigSep_univ_prod (fun ck : Dev nD × CI => iprop(∃ κ : ℕ, cellInv ER (ringRd m) κ (kcell ck))),
    ← bigSep_univ_prod (fun ck : Dev nD × CI => (reached ER (kcell ck) 0 : sProp 𝕄))]
  iintro ⟨HI, HR, Hat, Htok, Hkv⟩
  ihave HK := (BI.bigSep_exists_pi Finset.univ (fun (ck : Dev nD × CI) (κ : ℕ) => (cellInv ER (ringRd m) κ (kcell ck) : sProp 𝕄))) $$ HI
  icases HK with ⟨%K, HI⟩
  ihave Htk := (toks_around (F := F)) $$ Htok
  ihave HIR := (show iprop((bigSep Finset.univ fun ck : Dev nD × CI => cellInv ER (ringRd m) (K ck) (kcell ck)) ∗ bigSep Finset.univ fun ck : Dev nD × CI => reached ER (kcell ck) 0)
      ⊢ (records m K : sProp 𝕄) from by unfold records; rw [bigSep_sep']) $$ [HI HR]
  · isplitl [HI] <;> iassumption
  isplitl [HIR]
  · iapply ((BI.bigSep_of_persistent Finset.univ (records m K)).trans (bigSep_mono fun c _ => records_ex m K)) $$ HIR
  isplitl [Hat]; · iexact Hat
  isplitl [Htk] <;> iassumption

/-- The launch's global step, over the semaphores of all devices at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

omit [FloatOps F] in
theorem kcell_eq_iff {a b : Dev nD × CI} : kcell a = kcell b ↔ a = b := ⟨fun h => kcell_injective h, fun h => h ▸ rfl⟩

/-- What device `d`'s remaining hops bring a receive cell. -/
theorem Orem_recv (d c : Dev nD) (l : Bool) (t : Fin 6) (k : ℕ) (hk : k ≤ 6) :
    Orem d k (recvCell l t c) () = if d = src l c ∧ 6 ≤ t.val + k then N else 0 := by
  have hc (l' : Bool) (t' : Fin 6) : (recvCell l t c = recvCell l' t' (dst l' d)) ↔ (l = l' ∧ t = t' ∧ d = src l c) := by
    have := kcell_eq_iff (a := (c, some (true, l, t))) (b := (dst l' d, some (true, l', t')))
    refine this.trans ⟨fun h => ?_, fun ⟨h1, h2, h3⟩ => ?_⟩
    · have e1 := (Prod.mk.inj h).1
      have e2 := Option.some.inj (Prod.mk.inj h).2
      have e3 : l = l' := congrArg (fun x : XI => x.2.1) e2
      have e4 : t = t' := congrArg (fun x : XI => x.2.2) e2
      subst e3 e4
      exact ⟨rfl, rfl, by rw [e1, src_dst]⟩
    · subst h1 h2 h3; rw [dst_src]
  induction k with
  | zero => rw [if_neg (by have := t.isLt; omega)]; rfl
  | succ k ih =>
    have ht : (hop k).val = 5 - k := Nat.mod_eq_of_lt (by omega)
    have htt : t = hop k ↔ t.val = 5 - k := ⟨fun h => by rw [h, ht], fun h => Fin.ext (by rw [h, ht])⟩
    unfold Orem
    rw [Pi.add_apply, Finsupp.add_apply, Pi.add_apply, Finsupp.add_apply, ih (by omega), tallyAt_apply, tallyAt_apply]
    simp only [hc, htt, and_true]
    by_cases hd : d = src l c
    · cases l <;> simp only [hd, true_and, and_true, false_and, Bool.false_eq_true, reduceCtorEq, if_false, Nat.add_zero] <;>
        split_ifs <;> omega
    · simp only [hd, and_false, false_and, if_false, Nat.add_zero]

theorem Orem_bar (d c : Dev nD) (k : ℕ) : Orem d k (barCell c) () = 0 := by
  induction k with
  | zero => rfl
  | succ k ih =>
    unfold Orem
    have hne (l : Bool) (t : Fin 6) (e : Dev nD) : barCell c ≠ recvCell l t e := fun h => by cases congrArg Prod.snd h
    rw [Pi.add_apply, Finsupp.add_apply, Pi.add_apply, Finsupp.add_apply, ih, tallyAt_ne_cell (hne _ _ _), tallyAt_ne_cell (hne _ _ _)]
    rfl

/-- What device `d` owes device `c`'s barrier cell: a unit to each neighbour. -/
theorem owed_bar (d c : Dev nD) : O₀ d (barCell c) () = (if d = prv c then 1 else 0) + (if d = nxt c then 1 else 0) := by
  have h (e : Dev nD) : (barCell c = barCell e) ↔ c = e :=
    ⟨fun h => congrArg (fun g : GSem nD τ sig => g.1.1) h, fun h => h ▸ rfl⟩
  have h1 : c = nxt d ↔ d = prv c := ⟨fun h => by rw [h, prv_nxt], fun h => by rw [h, nxt_prv]⟩
  have h2 : c = prv d ↔ d = nxt c := ⟨fun h => by rw [h, nxt_prv], fun h => by rw [h, prv_nxt]⟩
  unfold O₀ O₁
  rw [Pi.add_apply, Finsupp.add_apply, Pi.add_apply, Finsupp.add_apply, Orem_bar, tallyAt_apply, tallyAt_apply]
  simp only [h, h1, h2, and_true, Nat.zero_add]

theorem owed_recv (d c : Dev nD) (l : Bool) (t : Fin 6) : O₀ d (recvCell l t c) () = if d = src l c then N else 0 := by
  have hne (e : Dev nD) : recvCell l t c ≠ barCell e := fun h => by cases congrArg Prod.snd h
  unfold O₀ O₁
  rw [Pi.add_apply, Finsupp.add_apply, Pi.add_apply, Finsupp.add_apply, tallyAt_ne_cell (hne _), tallyAt_ne_cell (hne _),
    Orem_recv d c l t 6 (le_refl 6), Finsupp.zero_apply, Nat.add_zero, Nat.add_zero]
  simp only [show 6 ≤ t.val + 6 from Nat.le_add_left _ _, and_true]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]

theorem launch_recv (c : Dev nD) (l : Bool) (t : Fin 6) :
    tallyOn (recvCell l t c) (launchCredit (Pipeline.owing O₀) 0 (recvCell l t c)) = (tallyAt (recvCell l t c) () N : CellTallies nD τ sig Unit) := by
  unfold tallyAt; refine congrArg _ (Finsupp.ext fun u => ?_); cases u
  rw [Pipeline.launchCredit_owing, Finsupp.single_eq_same, Finset.sum_congr rfl fun d _ => owed_recv d c l t, Finset.sum_ite_eq' Finset.univ (src l c) fun _ => N,
    if_pos (Finset.mem_univ _)]

theorem creds (c : Dev nD) :
    (Pipeline.launchCred O₀ c : sProp 𝕄) ⊢ iprop(cred (tallyAt (barCell c) () 2) ∗ bigSep Finset.univ fun x : Bool × Fin 6 => cred (tallyAt (recvCell x.1 x.2 c) () N)) := by
  have hinj : Function.Injective fun x : Bool × Fin 6 => SemLoc.dma (recvS x.1 x.2) := by
    rintro ⟨l, t⟩ ⟨l', t'⟩ h
    have := csem_injective (a₁ := some (true, l, t)) (a₂ := some (true, l', t')) h
    have e := Option.some.inj this
    rw [Prod.mk.injEq, Prod.mk.injEq] at e
    rw [e.2.1, e.2.2]
  unfold Pipeline.launchCred
  rw [bigSep_univ_at _ (SemLoc.reg barS), launch_bar]
  refine sep_mono_right ?_
  refine (bigSep_subset (t := Finset.univ.map ⟨_, hinj⟩) fun x hx => ?_).trans ?_
  · obtain ⟨y, -, rfl⟩ := Finset.mem_map.mp hx
    exact Finset.mem_erase.mpr ⟨(fun h => by cases h), Finset.mem_univ _⟩
  · rw [bigSep_map]
    exact Entails.of_eq (bigSep_congr fun x _ => congrArg cred (launch_recv c x.1 x.2))

end Cert.KernelIdeal.Own

end
-- ==== Proof.KernelIdealRun.lean ====
/-
  The run of the whole program: the buffers split for the body and put together again, the launch, and what every final
  state holds: the result at `outF` on every device, the arguments as they were, every counter at zero.
-/
module

public import proofs.«01_k».proof.Proof.KernelIdealGhost
public import Idealize.ShloMosaic.Lib.Pipeline.ValueKit
public import Idealize.ShloMosaic.Lib.Pipeline.CollectiveSegs

@[expose] public section

set_option maxRecDepth 16384

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Buffers split and joined -/

theorem slot_set_false (t : Fin 6) : (slotM false t).view.set = (slotRect t).set := by
  show (((commM false).slice (slotRect t) (fun _ => rfl)).view.reshape S256x1024 squeezes_S1x256x1024_S256x1024.numel_eq).set = _
  rw [View.set_reshape]; exact View.set_slice_whole cc0_scratch5 _
theorem slot_set_true (t : Fin 6) : (slotM true t).view.set = (slotRect t).set := by
  show (((commM true).slice (slotRect t) (fun _ => rfl)).view.reshape S256x1024 squeezes_S1x256x1024_S256x1024.numel_eq).set = _
  rw [View.set_reshape]; exact View.set_slice_whole cc0_scratch6 _

theorem slot_disjoint (t t' : Fin 6) (h : t ≠ t') : Disjoint (slotRect t).set (slotRect t').set :=
  lead_disjoint (s := S6x256x1024) (0 : Fin 3) 1 (fun t : Fin 6 => ![t.val, 0, 0]) S1x256x1024.size slot_inb (fun t => (Nat.one_mul _).symm) rfl t t' h
theorem slot_cover : Finset.univ.biUnion (fun t => (slotRect t).set) = (Finset.univ : Finset S6x256x1024.Idx) :=
  lead_cover (s := S6x256x1024) (0 : Fin 3) 1 (fun t : Fin 6 => ![t.val, 0, 0]) S1x256x1024.size slot_inb (fun t => (Nat.one_mul _).symm)
    (fun t a h => by fin_cases a <;> first | exact absurd rfl h | rfl) rfl (fun a h => by fin_cases a <;> first | exact absurd rfl h | rfl) rfl

abbrev kvRect (b : Fin 2) : Rect S2x2048x1x128 := Rect.unit (s := S2x2048x1x128) (kvO b.val) S1x2048x1x128.size (kvO_inb b.val)
theorem kv_set_false (b : Fin 2) : (kvB false b.val).view.set = (kvRect b).set := by
  show (((kvM false).slice (kvRect b) (fun _ => rfl)).view.reshape S2048x1x128 squeezes_S1x2048x1x128_S2048x1x128.numel_eq).set = _
  rw [View.set_reshape]; exact View.set_slice_whole cc0_scratch2 _
theorem kv_set_true (b : Fin 2) : (kvB true b.val).view.set = (kvRect b).set := by
  show (((kvM true).slice (kvRect b) (fun _ => rfl)).view.reshape S2048x1x128 squeezes_S1x2048x1x128_S2048x1x128.numel_eq).set = _
  rw [View.set_reshape]; exact View.set_slice_whole cc0_scratch3 _
theorem kvRect_disjoint (t t' : Fin 2) (h : t ≠ t') : Disjoint (kvRect t).set (kvRect t').set :=
  lead_disjoint (s := S2x2048x1x128) (0 : Fin 4) 1 (fun b : Fin 2 => kvO b.val) S1x2048x1x128.size (fun b => kvO_inb b.val)
    (fun b => by fin_cases b <;> rfl) rfl t t' h
theorem kvRect_cover : Finset.univ.biUnion (fun t => (kvRect t).set) = (Finset.univ : Finset S2x2048x1x128.Idx) :=
  lead_cover (s := S2x2048x1x128) (0 : Fin 4) 1 (fun b : Fin 2 => kvO b.val) S1x2048x1x128.size (fun b => kvO_inb b.val)
    (fun b => by fin_cases b <;> rfl)
    (fun b a h => by fin_cases b <;> fin_cases a <;> first | exact absurd rfl h | rfl) rfl (fun a h => by fin_cases a <;> first | exact absurd rfl h | rfl) rfl

omit [FloatOps F] in
theorem slot_in (l : Bool) (t : Fin 6) (c : Dev nD) (f : Buf (Elt F) ((slotM l t).view.loc (c : Thread nD τ))) :
    (((slotM l t).view.loc (c : Thread nD τ)) ↦[(slotM l t).view.set]{fullShare} f : sProp 𝕄) ⊢ iprop(∃ f, slotPts (F := F) l t c f) := by
  iintro H; iexists f; unfold slotPts; iexact H

omit [FloatOps F] in
/-- A communication buffer whole is its six slots, -/
theorem comm_split (l : Bool) (c : Dev nD) (f : Buf (Elt F) ((commM l).view.loc (c : Thread nD τ))) :
    (((commM l).view.loc (c : Thread nD τ)) ↦{fullShare} f : sProp 𝕄) ⊢ bigSep Finset.univ fun t : Fin 6 => iprop(∃ f, slotPts (F := F) l t c f) := by
  cases l
  · refine (Entails.of_eq (pointsTo_blocks (ℓ := (c : Thread nD τ).loc cc0_scratch5) (fun t : Fin 6 => (slotRect t).set) slot_disjoint slot_cover f)).trans
      (bigSep_mono fun t _ => ?_)
    rw [← slot_set_false]; exact slot_in false t c f
  · refine (Entails.of_eq (pointsTo_blocks (ℓ := (c : Thread nD τ).loc cc0_scratch6) (fun t : Fin 6 => (slotRect t).set) slot_disjoint slot_cover f)).trans
      (bigSep_mono fun t _ => ?_)
    rw [← slot_set_true]; exact slot_in true t c f
/-- and back. -/
theorem comm_join (l : Bool) (c : Dev nD) (f₀ : Buf (Elt F) ((commM l).view.loc (c : Thread nD τ))) :
    (bigSep Finset.univ fun t : Fin 6 => iprop(∃ f, slotPts (F := F) l t c f)) ⊢ (iprop(∃ f, ((commM l).view.loc (c : Thread nD τ)) ↦{fullShare} f) : sProp 𝕄) := by
  unfold slotPts
  cases l
  · refine (bigSep_mono fun t _ => ?_).trans (pointsTo_blocks_join_exists (ℓ := (c : Thread nD τ).loc cc0_scratch5) (fun t : Fin 6 => (slotRect t).set) slot_disjoint slot_cover f₀)
    rw [slot_set_false]; exact Entails.refl _
  · refine (bigSep_mono fun t _ => ?_).trans (pointsTo_blocks_join_exists (ℓ := (c : Thread nD τ).loc cc0_scratch6) (fun t : Fin 6 => (slotRect t).set) slot_disjoint slot_cover f₀)
    rw [slot_set_true]; exact Entails.refl _

omit [FloatOps F] in
theorem bigSep_two (Ψ : Fin 2 → sProp 𝕄) : bigSep Finset.univ Ψ = iprop(Ψ 0 ∗ Ψ 1) := bigSep_univ_eq_bigSepL [0, 1] (by decide) (by decide) Ψ

/-- A key or value buffer whole is its two halves, -/
theorem kv_split (kv : Bool) (c : Dev nD) (f : Buf (Elt F) ((kvM kv).view.loc (c : Thread nD τ))) :
    (((kvM kv).view.loc (c : Thread nD τ)) ↦{fullShare} f : sProp 𝕄)
      ⊢ iprop((∃ f, (kvB kv 0).view.loc (c : Thread nD τ) ↦[(kvB kv 0).view.set]{fullShare} f) ∗ (∃ f, (kvB kv 1).view.loc (c : Thread nD τ) ↦[(kvB kv 1).view.set]{fullShare} f)) := by
  cases kv
  · rw [pointsTo_blocks (ℓ := (c : Thread nD τ).loc cc0_scratch2) (fun t : Fin 2 => (kvRect t).set) kvRect_disjoint kvRect_cover f,
      bigSep_two]
    iintro ⟨H0, H1⟩
    isplitl [H0]
    · iexists f; rw [show (kvB false 0).view.set = (kvRect 0).set from kv_set_false 0]; iexact H0
    · iexists f; rw [show (kvB false 1).view.set = (kvRect 1).set from kv_set_false 1]; iexact H1
  · rw [pointsTo_blocks (ℓ := (c : Thread nD τ).loc cc0_scratch3) (fun t : Fin 2 => (kvRect t).set) kvRect_disjoint kvRect_cover f,
      bigSep_two]
    iintro ⟨H0, H1⟩
    isplitl [H0]
    · iexists f; rw [show (kvB true 0).view.set = (kvRect 0).set from kv_set_true 0]; iexact H0
    · iexists f; rw [show (kvB true 1).view.set = (kvRect 1).set from kv_set_true 1]; iexact H1
/-- and back. -/
theorem kv_join (kv : Bool) (c : Dev nD) (f₀ : Buf (Elt F) ((kvM kv).view.loc (c : Thread nD τ))) :
    iprop((∃ f, (kvB kv 0).view.loc (c : Thread nD τ) ↦[(kvB kv 0).view.set]{fullShare} f) ∗ (∃ f, (kvB kv 1).view.loc (c : Thread nD τ) ↦[(kvB kv 1).view.set]{fullShare} f))
      ⊢ (iprop(∃ f, ((kvM kv).view.loc (c : Thread nD τ)) ↦{fullShare} f) : sProp 𝕄) := by
  cases kv
  · refine BI.Entails.trans ?_ (pointsTo_blocks_join_exists (ℓ := (c : Thread nD τ).loc cc0_scratch2) (fun t : Fin 2 => (kvRect t).set) kvRect_disjoint kvRect_cover f₀)
    rw [bigSep_two, ← show (kvB false 0).view.set = (kvRect 0).set from kv_set_false 0, ← show (kvB false 1).view.set = (kvRect 1).set from kv_set_false 1]
    exact Entails.refl _
  · refine BI.Entails.trans ?_ (pointsTo_blocks_join_exists (ℓ := (c : Thread nD τ).loc cc0_scratch3) (fun t : Fin 2 => (kvRect t).set) kvRect_disjoint kvRect_cover f₀)
    rw [bigSep_two, ← show (kvB true 0).view.set = (kvRect 0).set from kv_set_true 0, ← show (kvB true 1).view.set = (kvRect 1).set from kv_set_true 1]
    exact Entails.refl _

/-- An array read through two halves of its share. -/
theorem halves (kv : Bool) (c : Dev nD) :
    (((kvA kv).view.loc (c : Thread nD τ)) ↦{fullShare} kvV m kv c : sProp 𝕄)
      ⊣⊢ iprop((((kvA kv).view.loc (c : Thread nD τ)) ↦{half 0} kvV m kv c) ∗ (((kvA kv).view.loc (c : Thread nD τ)) ↦{half 1} kvV m kv c)) :=
  pointsTo_share (PosShare.mem_left_op_right fullShare)
theorem halves2 (c : Dev nD) : (((c : Thread nD τ).loc main_arg2) ↦{fullShare} m ((c : Thread nD τ).loc main_arg2) : sProp 𝕄)
    ⊢ iprop((((kvA false).view.loc (c : Thread nD τ)) ↦{half 0} kvV m false c) ∗ (((kvA false).view.loc (c : Thread nD τ)) ↦{half 1} kvV m false c)) :=
  (halves m false c).1
theorem halves3 (c : Dev nD) : (((c : Thread nD τ).loc main_arg3) ↦{fullShare} m ((c : Thread nD τ).loc main_arg3) : sProp 𝕄)
    ⊢ iprop((((kvA true).view.loc (c : Thread nD τ)) ↦{half 0} kvV m true c) ∗ (((kvA true).view.loc (c : Thread nD τ)) ↦{half 1} kvV m true c)) :=
  (halves m true c).1

omit [FloatOps F] in
theorem bigSep_kv (Φ : Bool × Fin 2 → sProp 𝕄) : bigSep Finset.univ Φ = iprop((Φ (false, 0) ∗ Φ (false, 1)) ∗ (Φ (true, 0) ∗ Φ (true, 1))) := by
  rw [bigSep_univ_prod, bigSep_bool, bigSep_two, bigSep_two]

/-- The key and value buffers, their semaphores and the two arrays make both pairs of idle buffers, -/
theorem idle_intro (c : Dev nD) :
    iprop((∃ f : Buf (Elt F) ((c : Thread nD τ).loc cc0_scratch2), ((c : Thread nD τ).loc cc0_scratch2) ↦{fullShare} f)
        ∗ (∃ f : Buf (Elt F) ((c : Thread nD τ).loc cc0_scratch3), ((c : Thread nD τ).loc cc0_scratch3) ↦{fullShare} f)
        ∗ kvSems c ∗ (((c : Thread nD τ).loc main_arg2) ↦{fullShare} m ((c : Thread nD τ).loc main_arg2)) ∗ (((c : Thread nD τ).loc main_arg3) ↦{fullShare} m ((c : Thread nD τ).loc main_arg3)))
      ⊢ iprop(idle2 m c 0 ∗ idle2 m c 1) := by
  unfold kvSems idle2 kvIdle
  rw [bigSep_kv]
  iintro ⟨⟨%f, Hk⟩, ⟨%g, Hv⟩, ⟨⟨Z1, Z2⟩, Z3, Z4⟩, H2, H3⟩
  ihave Hk' := (kv_split false c f) $$ Hk
  ihave Hv' := (kv_split true c g) $$ Hv
  ihave H2' := (halves2 m c) $$ H2
  ihave H3' := (halves3 m c) $$ H3
  icases Hk' with ⟨K0, K1⟩
  icases Hv' with ⟨V0, V1⟩
  icases H2' with ⟨A0, A1⟩
  icases H3' with ⟨B0, B1⟩
  isplitl [K0 V0 Z1 Z3 A0 B0]
  · isplitl [K0 Z1 A0]
    · isplitl [K0]; · iexact K0
      isplitl [Z1]; · iexact Z1
      iexact A0
    isplitl [V0]; · iexact V0
    isplitl [Z3]; · iexact Z3
    iexact B0
  isplitl [K1 Z2 A1]
  · isplitl [K1]; · iexact K1
    isplitl [Z2]; · iexact Z2
    iexact A1
  isplitl [V1]; · iexact V1
  isplitl [Z4]; · iexact Z4
  iexact B1
/-- and back. -/
theorem idle_exit (c : Dev nD) :
    iprop(idle2 m c 0 ∗ idle2 m c 1)
      ⊢ iprop((∃ f : Buf (Elt F) ((c : Thread nD τ).loc cc0_scratch2), ((c : Thread nD τ).loc cc0_scratch2) ↦{fullShare} f)
        ∗ (∃ f : Buf (Elt F) ((c : Thread nD τ).loc cc0_scratch3), ((c : Thread nD τ).loc cc0_scratch3) ↦{fullShare} f)
        ∗ kvSems c ∗ (((c : Thread nD τ).loc main_arg2) ↦{fullShare} m ((c : Thread nD τ).loc main_arg2)) ∗ (((c : Thread nD τ).loc main_arg3) ↦{fullShare} m ((c : Thread nD τ).loc main_arg3))) := by
  unfold kvSems idle2 kvIdle
  rw [bigSep_kv]
  iintro ⟨⟨⟨⟨%f, K0⟩, Z1, A0⟩, ⟨%g, V0⟩, Z3, B0⟩, ⟨K1, Z2, A1⟩, ⟨V1, Z4, B1⟩⟩
  isplitl [K0 K1]
  · iapply (kv_join false c f)
    isplitl [K0]; · iexists f; iexact K0
    iexact K1
  isplitl [V0 V1]
  · iapply (kv_join true c g)
    isplitl [V0]; · iexists g; iexact V0
    iexact V1
  isplitl [Z1 Z2 Z3 Z4]
  · isplitl [Z1 Z2]
    · isplitl [Z1]; · iexact Z1
      iexact Z2
    isplitl [Z3]; · iexact Z3
    iexact Z4
  isplitl [A0 A1]
  · iapply (halves m false c).2
    isplitl [A0]; · iexact A0
    iexact A1
  iapply (halves m true c).2
  isplitl [B0]; · iexact B0
  iexact B1

/-! ## The run's side conditions -/

/-- What device `c` enters the region with. -/
def start (c : Dev nD) : sProp 𝕄 :=
  iprop(G' m c ∗ (cred (tallyAt (barCell c) () 2) ∗ bigSep Finset.univ fun x : Bool × Fin 6 => cred (tallyAt (recvCell x.1 x.2 c) () N)) ∗ levAts L lv
    ∗ (((c : Thread nD τ).loc main_arg2) ↦{fullShare} m ((c : Thread nD τ).loc main_arg2)) ∗ (((c : Thread nD τ).loc main_arg3) ↦{fullShare} m ((c : Thread nD τ).loc main_arg3)))
/-- What it leaves it with. -/
def done (c : Dev nD) : sProp 𝕄 :=
  iprop(unscopedSems0 c ∗ (((c : Thread nD τ).loc main_arg2) ↦{fullShare} m ((c : Thread nD τ).loc main_arg2)) ∗ (((c : Thread nD τ).loc main_arg3) ↦{fullShare} m ((c : Thread nD τ).loc main_arg3)))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨H2, H3⟩, Hlev, Hcr, -, HG⟩
  ihave Hc := (creds (F := F) c) $$ Hcr
  imodintro
  unfold start
  isplitl
  · isplitl [HG]; · iexact HG
    isplitl [Hc]; · iexact Hc
    isplitl [Hlev]; · iexact Hlev
    isplitl [H2] <;> iassumption
  · iempintro

/-- The exchange's resources hop by hop. -/
theorem ring_start_intro (c : Dev nD) :
    iprop((bigSep Finset.univ fun k : CI => atPos ER (kcell (c, k)) 0 ∅ 0) ∗ payToks c
        ∗ (cred (tallyAt (barCell c) () 2) ∗ bigSep Finset.univ fun x : Bool × Fin 6 => cred (tallyAt (recvCell x.1 x.2 c) () N)))
      ⊢ (iprop(barRes c ∗ bigSep Finset.univ fun t : Fin 6 => iprop(hopRes (F := F) c false t ∗ hopRes c true t)) : sProp 𝕄) := by
  rw [← bigSep_lt (fun l t => hopRes (F := F) c l t)]
  unfold payToks barRes hopRes
  rw [bigSep_ci, bigSep_xi]
  simp only [bigSep_sep']
  iintro ⟨⟨A0, A1, A2⟩, ⟨⟨T1, T2⟩, T3, T4⟩, C0, C1⟩
  isplitl [A0 T1 T2 C0]
  · isplitl [A0]; · iexact A0
    isplitl [T2]; · iexact T2
    isplitl [T1]; · iexact T1
    iexact C0
  isplitl [A1]; · iexact A1
  isplitl [A2]; · iexact A2
  isplitl [T3]; · iexact T3
  isplitl [T4]; · iexact T4
  iexact C1

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = PhiAt m c 0 from rfl, scopedRest0_eq]
  unfold start G' linear PhiAt gate cur2 qIs ctxIs ringStart stages
  rw [if_pos (by decide), dif_neg (by simp)]
  iintro ⟨⟨⟨HK, Hat, Htok, Hkv⟩, Hcr, Hlev, H2, H3⟩, -, ⟨%f0, S0⟩, ⟨%f1, S1⟩, S2, S3, ⟨%f5, S5⟩, ⟨%f6, S6⟩, ⟨%f7, S7⟩, ⟨%f8, S8⟩⟩
  ihave Hidle := (idle_intro m c) $$ [S2 S3 Hkv H2 H3]
  · isplitl [S2]; · iexact S2
    isplitl [S3]; · iexact S3
    isplitl [Hkv]; · iexact Hkv
    isplitl [H2] <;> iassumption
  icases Hidle with ⟨I0, I1⟩
  ihave Hring := (ring_start_intro (F := F) c) $$ [Hat Htok Hcr]
  · isplitl [Hat]; · iexact Hat
    isplitl [Htok] <;> iassumption
  icases Hring with ⟨Hbar, Hhops⟩
  isplitl [HK Hlev Hbar Hhops S5 S6 S7 S8]
  · isplitl [HK]; · iexact HK
    isplitl [Hlev]; · iexact Hlev
    isplitl [Hbar]; · iexact Hbar
    isplitl [Hhops]; · iexact Hhops
    isplitl [S5]; · iapply (comm_split false c f5) $$ S5
    isplitl [S6]; · iapply (comm_split true c f6) $$ S6
    isplitl [S7]
    · iexists f7
      rw [show stageM false = Memref.whole cc0_scratch7 from rfl, owns_whole_eq]
      iexists f7; isplitr; · ipureintro; rfl
      iexact S7
    · iexists f8
      rw [show stageM true = Memref.whole cc0_scratch8 from rfl, owns_whole_eq]
      iexists f8; isplitr; · ipureintro; rfl
      iexact S8
  isplitl [S0]
  · iexists f0; isplitr; · ipureintro; intro h; exact absurd h (lt_irrefl 0)
    iexact S0
  isplitl [S1]
  · iexists f1; isplitr; · ipureintro; intro i h; exfalso; omega
    iexact S1
  isplitl [I0] <;> iassumption

omit [FloatOps F] in
/-- The exchange's semaphores, hop by hop, at its end. -/
theorem sems_exit (c : Dev nD) :
    (bigSep Finset.univ fun t : Fin 6 => iprop(hopDone (F := F) c false t ∗ hopDone c true t)) ⊢ (bigSep Finset.univ fun x : XI => semVal (kcell (c, some x)) 0 : sProp 𝕄) := by
  rw [← bigSep_lt (fun l t => hopDone (F := F) c l t)]
  unfold hopDone
  rw [bigSep_xi, bigSep_sep']
  exact Entails.refl _

theorem phi8_exit (c : Dev nD) :
    (dats m 0 c).Φ (Fin.last cfg0.N) ⊢ iprop(done m c ∗ Pipeline.ownSems0 osem c ∗ Pipeline.scopedRest cfg0.spec c) := by
  rw [show (dats m 0 c).Φ (Fin.last cfg0.N) = PhiAt m c 8 from rfl, scopedRest0_eq, ownSems0_eq]
  unfold done
  rw [unscopedSems0_eq]
  unfold PhiAt gate cur2 qIs ctxIs ringEnd stages
  rw [if_neg (by decide), dif_neg (by rw [N_0]; decide), idle2_congr m c 8 0 rfl, idle2_congr m c (8 + 1) 1 rfl,
    show stageM false = Memref.whole cc0_scratch7 from rfl, show stageM true = Memref.whole cc0_scratch8 from rfl]
  simp only [owns_whole_eq]
  iintro ⟨⟨Hbar, Hhops, S5, S6, ⟨%X7, %f7, -, S7⟩, ⟨%X8, %f8, -, S8⟩⟩, ⟨%f0, -, S0⟩, ⟨%f1, -, S1⟩, I0, I1⟩
  ihave Hidle := (idle_exit m c) $$ [I0 I1]
  · isplitl [I0] <;> iassumption
  icases Hidle with ⟨S2, S3, Hkv, H2, H3⟩
  ihave Hx := (sems_exit (F := F) c) $$ Hhops
  ihave S5' := (comm_join false c (fun _ => Classical.arbitrary _)) $$ S5
  ihave S6' := (comm_join true c (fun _ => Classical.arbitrary _)) $$ S6
  isplitl [Hbar H2 H3]
  · isplitl [Hbar]; · iexact Hbar
    isplitl [H2] <;> iassumption
  isplitl [Hkv Hx]
  · isplitl [Hkv] <;> iassumption
  isplitl [S0]; · iexists f0; iexact S0
  isplitl [S1]; · iexists f1; iexact S1
  isplitl [S2]; · iexact S2
  isplitl [S3]; · iexact S3
  isplitl [S5']; · iexact S5'
  isplitl [S6']; · iexact S6'
  isplitl [S7]; · iexists f7; iexact S7
  iexists f8; iexact S8

theorem share_eq (c : Dev nD) (w : Fin cfg0.W) : (dats m 0 c).share w = fullShare := by unfold Dat.share; split <;> rfl

theorem stage_ne_recv (w : Fin cfg0.W) (s : Fin (cfg0.win w).nbuf) (l : Bool) (t : Fin 6) : (cfg0.win w).sem s ≠ recvS l t := by
  revert w s l t; decide +kernel

theorem waits (c : Dev nD) : (levAts L lv : sProp 𝕄) ⊢ Pipeline.cellsWaits cfgs (dats m) () 0 c :=
  Pipeline.cellsWaits_intro cfgs (dats m) () 0 c fun w s t =>
    mayWait_low c _ (stage_ne_recv w s) _ (by
      show owedAt c t.val = _ ∨ owedAt c t.val = _
      unfold owedAt
      split
      · exact .inl rfl
      · exact .inr rfl)

/-! ## The run -/

omit [FloatOps F] in
theorem ownU_split (a : UR sig nD τ) (b : UB) : (ownU ((a, (b, 1)) : UU) : sProp 𝕄) ⊢ iprop(BI.own (EP a) ∗ BI.own (ER b)) := by
  have h := ownU_pair (nD := nD) (τ := τ) (sig := sig) (Ix := Unit) (Val := Elt F) (Name := ℕ) (Lvl := ℕ) a (b, (1 : Counters))
  exact h

/-- What every final state holds. -/
def Final (s : MemSt nD τ sig (Elt F)) : Prop :=
  (∀ c : Dev nD, s.mem ((c : Thread nD τ).loc main_v1) = outF m c
    ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4))
  ∧ s.sem = fun _ => 0

theorem done_read (c : Dev nD) (s' : Phys nD τ sig (Elt F)) :
    iprop(done m c ∗ emp ∗ SI s') ⊢ |={Set.univ}=> iprop(⌜(∀ sm : SemLoc sig, sm.isScoped .tc = false → s'.mem.sem ((c.tc : Thread nD τ), sm) = 0)
      ∧ s'.mem.mem ((c : Thread nD τ).loc main_arg2) = m ((c : Thread nD τ).loc main_arg2)
      ∧ s'.mem.mem ((c : Thread nD τ).loc main_arg3) = m ((c : Thread nD τ).loc main_arg3)⌝ ∗ SI s') := by
  unfold done
  iintro ⟨⟨Hu, H2, H3⟩, -, HSI⟩
  ihave Hr := (pointsTo_read_all (F := fun b : Bool => m ((kvA b).view.loc (c : Thread nD τ))) Finset.univ (fun b : Bool => (kvA b).view.loc (c : Thread nD τ)) s') $$ [H2 H3 HSI]
  · isplitr [HSI]
    · rw [bigSep_bool]
      isplitl [H2]
      · iexact H2
      iexact H3
    iexact HSI
  icases Hr with ⟨%h, HSI⟩
  imod (Pipeline.unscopedSems0_read (X := unscopedSems0 c) (c := c) fupd_intro s') $$ [Hu HSI] with ⟨%hu, HSI⟩
  · isplitl [Hu] <;> iassumption
  imodintro
  isplitr
  · ipureintro; exact ⟨hu, h false (Finset.mem_univ _), h true (Finset.mem_univ _)⟩
  iexact HSI

/-- What every final state holds of the arrays the region's windows read and write, -/
theorem arr_in (w : Fin cfg0.W) (h : (cfg0.win w).isOut = false) (c : Dev nD) : (dats m 0 c).arrAt w cfg0.N = m ((cfg0.win w).arr.view.loc (c : Thread nD τ)) :=
  (dats m 0 c).arrAt_in w h _
theorem arr_out (c : Dev nD) : (dats m 0 c).arrAt (3 : Fin 4) cfg0.N = outF m c :=
  (dats m 0 c).arrAt_eq_of_covers (3 : Fin 4) _ (by decide +kernel) fun t hf y => by
    show outF m c _ = outF m c _
    congr 1
    funext a
    apply Fin.ext
    blk_simp
    fin_cases a <;> simp [Window.xinj] <;> rfl

theorem run_main : θ_run defs (onTc (τ := τ) (main (F := F))) (s₀ m ρ) (fun r => Final m r.2) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_split _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := done m) (Z := fun _ => iprop(emp))
    (hX := start_intro m ρ) (hin := phi0_intro m) (hout := phi8_exit m)
    (QY := fun c s => (∀ sm : SemLoc sig, sm.isScoped .tc = false → s.sem ((c.tc : Thread nD τ), sm) = 0)
      ∧ s.mem ((c : Thread nD τ).loc main_arg2) = m ((c : Thread nD τ).loc main_arg2) ∧ s.mem ((c : Thread nD τ).loc main_arg3) = m ((c : Thread nD τ).loc main_arg3))
    (hY := done_read m)
    (hQ := fun s h hs => ⟨fun c => ⟨((h c).1 3).trans (arr_out m c), ((h c).1 0).trans (arr_in m 0 rfl c), ((h c).1 1).trans (arr_in m 1 rfl c),
      (h c).2.2.2.1, (h c).2.2.2.2, ((h c).1 2).trans (arr_in m 2 rfl c)⟩, sem_eq_zero hs fun c => (h c).2.2.1⟩)

/-- The frame: the program terminates, its arguments end unchanged, every counter ends at zero. -/
theorem frame_main : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h.1 c).2, h.2⟩) (run_main m ρ)

end Cert.KernelIdeal.Own

end
-- ==== Proof.Softmax.lean ====
/-
  The one equation between the two ways to normalise attention weights, over the extended reals and with no program in it:
  dividing the exponentials of the scores less their maximum by their sum and then averaging the values gives what averaging
  with the plain exponentials and dividing once at the end gives, when the kept scores are real numbers.
-/
module

public import Idealize.ShloMosaic.Lib.Pointwise

@[expose] public section

noncomputable section

namespace Cert.Softmax

open Idealize.ShloMosaic

/-- An extended real that is a real number. -/
def Real? (x : EReal) : Prop := ∃ r : ℝ, x = (r : EReal)

theorem real_mul {x y : EReal} (hx : Real? x) (hy : Real? y) : Real? (x * y) := by
  obtain ⟨r, rfl⟩ := hx; obtain ⟨s, rfl⟩ := hy; exact ⟨r * s, (EReal.coe_mul r s).symm⟩

/-- The inclusion of the reals commutes with finite sums. -/
theorem coe_sum {ι : Type} (s : Finset ι) (f : ι → ℝ) : ((∑ i ∈ s, f i : ℝ) : EReal) = ∑ i ∈ s, (f i : EReal) :=
  map_sum (⟨⟨fun r : ℝ => (r : EReal), rfl⟩, EReal.coe_add⟩ : ℝ →+ EReal) f s

theorem real_sum {ι : Type} (s : Finset ι) {f : ι → EReal} (h : ∀ i, Real? (f i)) : Real? (∑ i ∈ s, f i) := by
  choose r hr using h
  exact ⟨∑ i ∈ s, r i, by rw [coe_sum]; exact Finset.sum_congr rfl fun i _ => hr i⟩

/-- Multiplying by a real number that is at least zero passes under a sum of any extended reals. -/
theorem mul_sum_of_nonneg {ι : Type} (s : Finset ι) (a : ℝ) (ha : 0 ≤ a) (f : ι → EReal) :
    (a : EReal) * ∑ i ∈ s, f i = ∑ i ∈ s, (a : EReal) * f i := by
  classical
  induction s using Finset.induction_on with
  | empty => simp
  | insert i s hi ih =>
    rw [Finset.sum_insert hi, Finset.sum_insert hi, ← ih]
    exact EReal.left_distrib_of_nonneg_of_ne_top (EReal.coe_nonneg.2 ha) (EReal.coe_ne_top a) _ _

/-- A real factor passes out of a sum of real numbers. -/
theorem sum_mul_real {ι : Type} (s : Finset ι) {f : ι → EReal} (h : ∀ i, Real? (f i)) {x : EReal} (hx : Real? x) :
    ∑ i ∈ s, f i * x = (∑ i ∈ s, f i) * x := by
  choose r hr using h
  obtain ⟨a, rfl⟩ := hx
  rw [Finset.sum_congr rfl fun i _ => (by rw [hr i, ← EReal.coe_mul] : f i * (a : EReal) = ((r i * a : ℝ) : EReal)), ← coe_sum,
    ← Finset.sum_mul, EReal.coe_mul, coe_sum]
  exact congrArg (· * _) (Finset.sum_congr rfl fun i _ => (hr i).symm)

/-- The quotient by a real number other than zero is the product by its inverse. -/
theorem div_coe (x : EReal) {L : ℝ} (hL : L ≠ 0) : Ideal.div x (L : EReal) = ((L⁻¹ : ℝ) : EReal) * x := by
  unfold Ideal.div
  rw [if_neg (by exact_mod_cast hL), mul_comm, EReal.coe_inv]

theorem exp_coe (r : ℝ) : Ideal.exp (r : EReal) = (Real.exp r : EReal) := rfl
theorem exp_bot : Ideal.exp ⊥ = 0 := rfl

/-- The maximum of finitely many extended reals, none of them `⊤` and one of them a real number, is a real number. -/
theorem real_fold_max {n : ℕ} (f : Fin n → EReal) (ht : ∀ j, f j ≠ ⊤) (j₀ : Fin n) (h₀ : Real? (f j₀)) :
    Real? (Finset.univ.fold max ⊥ f) := by
  have hb : Finset.univ.fold max ⊥ f ≠ ⊥ := fun e => by
    obtain ⟨r, hr⟩ := h₀
    have : f j₀ ≤ Finset.univ.fold max ⊥ f := Finset.le_fold_max _ |>.2 (.inr ⟨j₀, Finset.mem_univ _, le_rfl⟩)
    rw [e, hr, le_bot_iff] at this
    exact EReal.coe_ne_bot r this
  have htop : Finset.univ.fold max ⊥ f ≠ ⊤ := by
    apply ne_of_lt
    exact Finset.fold_max_lt _ |>.2 ⟨bot_lt_top, fun j _ => lt_top_iff_ne_top.2 (ht j)⟩
  exact ⟨_, (EReal.coe_toReal htop hb).symm⟩

variable {n : ℕ}

/-- The weight of a key: the exponential of its score if it is kept, zero if not. -/
def wt (p : Fin n → Prop) [DecidablePred p] (s : Fin n → EReal) (j : Fin n) : EReal := if p j then Ideal.exp (s j) else 0

/-- The score a masked softmax reads: minus infinity where the key is not kept. -/
def msk (p : Fin n → Prop) [DecidablePred p] (s : Fin n → EReal) (j : Fin n) : EReal := if p j then s j else ⊥

/-- Normalising by the maximum and the sum before averaging the values is dividing the plain weighted sum once. -/
theorem softmax_eq (p : Fin n → Prop) [DecidablePred p] (s v : Fin n → EReal) (hs : ∀ j, Real? (s j)) (j₀ : Fin n) (h₀ : p j₀) :
    ∑ j, v j * Ideal.div (Ideal.exp (msk p s j - Finset.univ.fold max ⊥ (msk p s)))
        (∑ j', Ideal.exp (msk p s j' - Finset.univ.fold max ⊥ (msk p s)))
      = Ideal.div (∑ j, wt p s j * v j) (∑ j, wt p s j) := by
  obtain ⟨μ, hμ⟩ : Real? (Finset.univ.fold max ⊥ (msk p s)) := by
    refine real_fold_max _ (fun j => ?_) j₀ ?_
    · obtain ⟨r, hr⟩ := hs j
      unfold msk; split
      · rw [hr]; exact EReal.coe_ne_top r
      · exact bot_ne_top
    · obtain ⟨r, hr⟩ := hs j₀
      exact ⟨r, by rw [← hr]; exact if_pos h₀⟩
  choose r hr using hs
  set e : Fin n → ℝ := fun j => if p j then Real.exp (r j) else 0 with he
  have hw : ∀ j, wt p s j = (e j : EReal) := fun j => by
    unfold wt; simp only [he]; split
    · rw [hr, exp_coe]
    · exact EReal.coe_zero.symm
  have hx : ∀ j, Ideal.exp (msk p s j - Finset.univ.fold max ⊥ (msk p s)) = ((e j * Real.exp (-μ) : ℝ) : EReal) := fun j => by
    rw [hμ]; unfold msk; simp only [he]; split
    · rw [hr, ← EReal.coe_sub, exp_coe, sub_eq_add_neg, Real.exp_add]
    · rw [EReal.bot_sub, exp_bot, zero_mul]; exact EReal.coe_zero.symm
  have hL : 0 < ∑ j, e j := by
    refine Finset.sum_pos' (fun j _ => ?_) ⟨j₀, Finset.mem_univ _, ?_⟩
    · simp only [he]; split
      · exact (Real.exp_pos _).le
      · exact le_rfl
    · simp only [he]; rw [if_pos h₀]; exact Real.exp_pos _
  have ha : 0 < Real.exp (-μ) := Real.exp_pos _
  simp only [hw, hx]
  rw [← coe_sum, ← coe_sum, ← Finset.sum_mul, div_coe _ hL.ne', mul_sum_of_nonneg _ _ (inv_nonneg.2 hL.le)]
  refine Finset.sum_congr rfl fun j _ => ?_
  have key : ((∑ j, e j) * Real.exp (-μ))⁻¹ * (e j * Real.exp (-μ)) = (∑ j, e j)⁻¹ * e j := by field_simp
  rw [div_coe _ (mul_pos hL ha).ne', ← EReal.coe_mul, key, EReal.coe_mul, mul_comm, mul_assoc]

end Cert.Softmax

end
-- ==== Proof.Finite.lean ====
/-
  What the precondition says: every element of x, of a device's columns of Wq and of the keys is a real number.
-/
module

public import proofs.«01_k».proof.Pre_finite_KernelIdeal
public import proofs.«01_k».proof.Pre_finite_ReferenceIdeal
public import proofs.«01_k».proof.Proof.Softmax
public import Idealize.ShloMosaic.Lib.ReduceAll

@[expose] public section

noncomputable section

namespace Cert.Finite

open Idealize.ShloMosaic Cert.Softmax

/-- The shapes of the precondition over a device's blocks fit. -/
theorem facts_kernel : Cert.Pre_finite_KernelIdeal.Facts :=
  ⟨by decide, by decide, by decide, by decide, by decide, by decide, by decide⟩
/-- So do those over the whole arrays. -/
theorem facts_reference : Cert.Pre_finite_ReferenceIdeal.Facts :=
  ⟨by decide, by decide, by decide, by decide, by decide, by decide, by decide⟩

/-- An extended real whose absolute value lies below infinity is a real number. -/
theorem real_of_abs (x : EReal) (h : Ideal.cmp .olt (max x (-x)) (Ideal.ofBits .f32 0x7F800000#32) = 1#1) : Real? x := by
  have ht : Ideal.ofBits .f32 0x7F800000#32 = ⊤ := by simp [Ideal.ofBits, Ideal.ieee]
  rw [ht] at h
  have hl : max x (-x) < ⊤ := by
    by_contra hc
    simp [Ideal.cmp, hc] at h
  obtain ⟨h1, h2⟩ := max_lt_iff.1 hl
  refine ⟨x.toReal, (EReal.coe_toReal h1.ne fun hb => ?_).symm⟩
  rw [hb, EReal.neg_bot] at h2
  exact lt_irrefl _ h2

open Cert.Pre_finite_KernelIdeal in
/-- The precondition makes the three arrays arrays of real numbers. -/
theorem reals [Cert.Pre_finite_KernelIdeal.Facts] (x : FVec Ideal S1x2048x1024 .f32) (w : FVec Ideal S1024x1024 .f32)
    (k v : FVec Ideal S1x2048x32x128 .f32) (wo : FVec Ideal S1024x1024 .f32) (h : fn (F := Ideal) x w k v wo = fun _ => 1#1) :
    (∀ i, Real? (x i)) ∧ (∀ i, Real? (w i)) ∧ ∀ i, Real? (k i) := by
  haveI : Subsingleton S_.Idx := ⟨fun a b => funext fun d => d.elim0⟩
  have h0 := congrFun h (fun d => d.elim0)
  obtain ⟨h12, h3⟩ := IntOp.andi_eq_one.1 h0
  obtain ⟨h1, h2⟩ := IntOp.andi_eq_one.1 h12
  exact ⟨fun i => real_of_abs _ (Host.reduce_andi_all _ _ _ _ _ h1 i), fun i => real_of_abs _ (Host.reduce_andi_all _ _ _ _ _ h2 i),
    fun i => real_of_abs _ (Host.reduce_andi_all _ _ _ _ _ h3 i)⟩

end Cert.Finite

end
-- ==== Proof.Spec.lean ====
/-
  What both programs compute, written once over plain arrays of extended reals: block-causal attention of one batch with 32
  heads over 2048 positions, projected in and out. A key is kept for a query when its block of 64 positions is not later than
  the query's. No program is named here.
-/
module

public import proofs.«01_k».proof.Proof.Softmax

@[expose] public section

noncomputable section

namespace Cert.Spec

open Idealize.ShloMosaic Cert.Softmax

/-- The scale of the scores: 128 to the power minus one half, as both programs write it. -/
def scale : EReal := Ideal.ofBits .f32 0x3DB504F3#32

/-- Key `j` is kept for query `i`. -/
def keep (i j : Fin 2048) : Prop := j.val / 64 ≤ i.val / 64
instance (i : Fin 2048) : DecidablePred (keep i) := fun _ => inferInstanceAs (Decidable (_ ≤ _))

/-- The column of coordinate `d` of head `h`. -/
def col (h : Fin 32) (d : Fin 128) : Fin 4096 := ⟨128 * h.val + d.val, by omega⟩

variable (X : (⟨3, ![1, 2048, 1024]⟩ : Shape).Idx → EReal) (Wq : (⟨2, ![1024, 4096]⟩ : Shape).Idx → EReal)
  (K V : (⟨4, ![1, 2048, 32, 128]⟩ : Shape).Idx → EReal) (Wo : (⟨2, ![4096, 1024]⟩ : Shape).Idx → EReal)

/-- The queries. -/
def query (h : Fin 32) (i : Fin 2048) (d : Fin 128) : EReal := ∑ k : Fin 1024, X (ix3 0 i k) * Wq (ix2 k (col h d))

/-- The scores. -/
def score (h : Fin 32) (i j : Fin 2048) : EReal := (∑ d : Fin 128, query X Wq h i d * K (ix4 0 j h d)) * scale

/-- The context: the values averaged by the kept keys' exponentials. -/
def ctx (h : Fin 32) (i : Fin 2048) (d : Fin 128) : EReal :=
  Ideal.div (∑ j, wt (keep i) (score X Wq K h i) j * V (ix4 0 j h d)) (∑ j, wt (keep i) (score X Wq K h i) j)

/-- Head of a column, and its coordinate in the head. -/
def hd (k : Fin 4096) : Fin 32 := ⟨k.val / 128, by omega⟩
def co (k : Fin 4096) : Fin 128 := ⟨k.val % 128, Nat.mod_lt _ (by decide)⟩

/-- The result: the context projected out. -/
def out (i : Fin 2048) (n : Fin 1024) : EReal := ∑ k : Fin 4096, ctx X Wq K V (hd k) i (co k) * Wo (ix2 k n)

/-- The scale is a real number. -/
theorem scale_real : Real? scale := by
  unfold scale Ideal.ofBits
  exact ⟨_, rfl⟩

variable {X Wq K}

theorem query_real (hX : ∀ i, Real? (X i)) (hW : ∀ i, Real? (Wq i)) (h : Fin 32) (i : Fin 2048) (d : Fin 128) : Real? (query X Wq h i d) :=
  real_sum _ fun _ => real_mul (hX _) (hW _)

/-- Finite inputs have finite scores. -/
theorem score_real (hX : ∀ i, Real? (X i)) (hW : ∀ i, Real? (Wq i)) (hK : ∀ i, Real? (K i)) (h : Fin 32) (i j : Fin 2048) :
    Real? (score X Wq K h i j) :=
  real_mul (real_sum _ fun _ => real_mul (query_real hX hW _ _ _) (hK _)) scale_real

/-! ## Sums cut in pieces -/

/-- A sum over `N` places of which only the first `a + b` are not zero, as the sum of the first `a` and the next `b`. -/
theorem sum_split {N : ℕ} (a b : ℕ) (h : a + b ≤ N) (f : Fin N → EReal) (hz : ∀ j : Fin N, a + b ≤ j.val → f j = 0) :
    ∑ j, f j = (∑ x : Fin a, f ⟨x.val, by omega⟩) + ∑ x : Fin b, f ⟨a + x.val, by omega⟩ := by
  let g : ℕ → EReal := fun k => if h : k < N then f ⟨k, h⟩ else 0
  have hg : ∀ (k : ℕ) (hk : k < N), g k = f ⟨k, hk⟩ := fun k hk => dif_pos hk
  have e1 : ∑ j, f j = ∑ k ∈ Finset.range N, g k := by
    rw [← Fin.sum_univ_eq_sum_range]; exact Finset.sum_congr rfl fun j _ => (hg j.val j.isLt).symm
  have e2 : ∑ x : Fin a, f ⟨x.val, by omega⟩ = ∑ k ∈ Finset.range a, g k := by
    rw [← Fin.sum_univ_eq_sum_range]; exact Finset.sum_congr rfl fun j _ => (hg j.val (by omega)).symm
  have e3 : ∑ x : Fin b, f ⟨a + x.val, by omega⟩ = ∑ k ∈ Finset.range b, g (a + k) := by
    rw [← Fin.sum_univ_eq_sum_range (fun k => g (a + k))]; exact Finset.sum_congr rfl fun j _ => (hg (a + j.val) (by omega)).symm
  rw [e1, e2, e3, ← Finset.sum_range_add]
  refine (Finset.sum_subset (Finset.range_mono h) fun k hk hk' => ?_).symm
  rw [Finset.mem_range] at hk hk'
  rw [hg k hk]; exact hz _ (by simpa using hk')

/-- A sum over 4096 places as four sums over 1024. -/
theorem sum_four (f : Fin 4096 → EReal) : ∑ k, f k = ∑ c : Fin 4, ∑ x : Fin 1024, f ⟨1024 * c.val + x.val, by omega⟩ := by
  rw [← Fintype.sum_prod_type']
  refine (Fintype.sum_equiv (finProdFinEquiv (m := 4) (n := 1024)) _ _ fun p => ?_).symm
  congr 1
  apply Fin.ext
  show 1024 * p.1.val + p.2.val = p.2.val + 1024 * p.1.val
  omega

end Cert.Spec

end
-- ==== Proof.Tiles.lean ====
/-
  The kernel's four query tiles, read at an index: each is the plain average of the values by the exponentials of the kept
  scores, over the 2048 keys of the head. A tile adds up the keys before its own 512 and, under the block mask, its own 512;
  the keys after them weigh nothing.
-/
module

public import proofs.«01_k».proof.Proof.KernelIdealCommon
public import proofs.«01_k».proof.Proof.Spec

@[expose] public section

noncomputable section

namespace Cert.KernelIdeal.Own

open Cert.KernelIdeal Cert.KernelIdeal.Gen Idealize.ShloMosaic Cert.Softmax Cert.Spec

/-! ## The block mask -/

/-- The block a position falls in, as the kernel works it out in 32-bit words. -/
def blockWord (n : ℕ) : BitVec 32 :=
  Scalar.select
    (IntOp.andi
      (IntOp.cmpi CmpIPredicate.ne
        (IntOp.subi (BitVec.setWidth 32 (IntOp.cmpi CmpIPredicate.sgt (BitVec.ofNat 32 n) 0#32))
          (BitVec.setWidth 32 (IntOp.cmpi CmpIPredicate.slt (BitVec.ofNat 32 n) 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector (BitVec.ofNat 32 n) 64#32) 0#32))
    (IntOp.subi (IntOp.divsi ArithUnit.vector (BitVec.ofNat 32 n) 64#32) 1#32)
    (IntOp.divsi ArithUnit.vector (BitVec.ofNat 32 n) 64#32)

/-- It is the position's quotient by 64. -/
theorem blockWord_eq (n : Fin 512) : blockWord n.val = BitVec.ofNat 32 (n.val / 64) := by
  revert n; decide +kernel

/-- Comparing two blocks as words compares them as numbers. -/
theorem sle_block (a b : Fin 32) : (IntOp.cmpi CmpIPredicate.sle (BitVec.ofNat 32 a.val) (BitVec.ofNat 32 b.val) = 1#1) ↔ a.val ≤ b.val := by
  revert a b; decide +kernel

/-- The mask of the diagonal keys, the same in every tile. -/
abbrev diagM : IVec S512x512 1 := k0_pay30 k0_pay28 k0_pay29 1#32

theorem diagM_apply (r x : Fin 512) : (diagM (ix2 r x) = 1#1) ↔ x.val / 64 ≤ r.val / 64 := by
  have e : diagM (ix2 r x) = IntOp.cmpi CmpIPredicate.sle (blockWord x.val) (blockWord r.val) := by
    unfold blockWord
    pointwise [diagM, k0_pay30, k0_pay28, k0_pay29]
  rw [e, blockWord_eq, blockWord_eq]
  exact sle_block ⟨x.val / 64, by omega⟩ ⟨r.val / 64, by omega⟩

/-! ## A tile -/

variable (k v : Vec Ideal S1x2048x1x128 .f32) (q : Vec Ideal S2048x128 .bf16)

/-- The score of query `i` and key `j` of a head. -/
def rowS (i j : Fin 2048) : EReal := ∑ d : Fin 128, q (ix2 i d) * k (ix4 0 j 0 d)

/-- The weights of query `i` over the keys. -/
def rowW (i j : Fin 2048) : EReal := wt (keep i) (rowS k q i) j

/-- A head's context at query `i` and coordinate `d`. -/
def attn (i : Fin 2048) (d : Fin 128) : EReal := Ideal.div (∑ j, rowW k q i j * v (ix4 0 j 0 d)) (∑ j, rowW k q i j)

/-- Query `r` of tile `n`. -/
def tq (n : Fin 4) (r : Fin 512) : Fin 2048 := ⟨512 * n.val + r.val, by omega⟩

theorem rowW_before (n : Fin 4) (r : Fin 512) (j : Fin 2048) (h : j.val < 512 * n.val) :
    rowW k q (tq n r) j = Ideal.exp (rowS k q (tq n r) j) :=
  if_pos (by show j.val / 64 ≤ (512 * n.val + r.val) / 64; omega)

theorem rowW_after (n : Fin 4) (r : Fin 512) (j : Fin 2048) (h : 512 * n.val + 512 ≤ j.val) : rowW k q (tq n r) j = 0 :=
  if_neg (by show ¬ j.val / 64 ≤ (512 * n.val + r.val) / 64; omega)

theorem rowW_diag (n : Fin 4) (r x : Fin 512) (c : EReal) :
    rowW k q (tq n r) (tq n x) * c = Scalar.select (diagM (ix2 r x)) (Ideal.exp (rowS k q (tq n r) (tq n x)) * c) 0 := by
  unfold rowW wt Scalar.select
  have hk : keep (tq n r) (tq n x) ↔ x.val / 64 ≤ r.val / 64 := by
    show (512 * n.val + x.val) / 64 ≤ (512 * n.val + r.val) / 64 ↔ _; omega
  by_cases h : x.val / 64 ≤ r.val / 64
  · rw [if_pos (hk.2 h)]; exact (if_pos ((diagM_apply r x).2 h)).symm
  · rw [if_neg (mt hk.1 h), zero_mul]; exact (if_neg (mt (diagM_apply r x).1 h)).symm

/-- The weighted sum over all keys of a tile's query, as the tile adds it up. -/
theorem rowW_sum (n : Fin 4) (r : Fin 512) (c : Fin 2048 → EReal) :
    ∑ j, rowW k q (tq n r) j * c j
      = (∑ x : Fin (512 * n.val), Ideal.exp (rowS k q (tq n r) ⟨x.val, by omega⟩) * c ⟨x.val, by omega⟩)
        + ∑ x : Fin 512, Scalar.select (diagM (ix2 r x)) (Ideal.exp (rowS k q (tq n r) (tq n x)) * c (tq n x)) 0 := by
  rw [sum_split (512 * n.val) 512 (by omega) _ fun j hj => by rw [rowW_after k q n r j hj, zero_mul]]
  refine congrArg₂ (· + ·) (Finset.sum_congr rfl fun x _ => ?_) (Finset.sum_congr rfl fun x _ => ?_)
  · rw [rowW_before k q n r _ x.isLt]
  · exact rowW_diag k q n r x _

/-- The same for the plain sum of the weights. -/
theorem rowW_total (n : Fin 4) (r : Fin 512) :
    ∑ j, rowW k q (tq n r) j
      = (∑ x : Fin (512 * n.val), Ideal.exp (rowS k q (tq n r) ⟨x.val, by omega⟩))
        + ∑ x : Fin 512, Scalar.select (diagM (ix2 r x)) (Ideal.exp (rowS k q (tq n r) (tq n x))) 0 := by
  have h := rowW_sum k q n r fun _ => 1
  simp only [mul_one] at h
  exact h

theorem attn_eq (n : Fin 4) (r : Fin 512) (d : Fin 128) :
    attn k v q (tq n r) d
      = Ideal.div
        ((∑ x : Fin (512 * n.val), Ideal.exp (rowS k q (tq n r) ⟨x.val, by omega⟩) * v (ix4 0 ⟨x.val, by omega⟩ 0 d))
          + ∑ x : Fin 512, Scalar.select (diagM (ix2 r x)) (Ideal.exp (rowS k q (tq n r) (tq n x)) * v (ix4 0 (tq n x) 0 d)) 0)
        ((∑ x : Fin (512 * n.val), Ideal.exp (rowS k q (tq n r) ⟨x.val, by omega⟩))
          + ∑ x : Fin 512, Scalar.select (diagM (ix2 r x)) (Ideal.exp (rowS k q (tq n r) (tq n x))) 0) := by
  unfold attn
  rw [rowW_sum k q n r fun j => v (ix4 0 j 0 d), rowW_total k q n r]

/-- The first tile: no keys before its own. -/
theorem tile0_apply (r : Fin 512) (d : Fin 128) : tile0 k v q (ix2 r d) = attn k v q (tq 0 r) d := by
  rw [attn_eq]
  have z : ∀ f : Fin (512 * (0 : Fin 4).val) → EReal, ∑ x, f x = 0 := fun f => Finset.sum_eq_zero fun x _ => absurd x.isLt (Nat.not_lt_zero _)
  rw [z, z, zero_add, zero_add]
  have hq : ∀ x : Fin 512, tq 0 x = ⟨x.val, by omega⟩ := fun x => Fin.ext (by show 512 * 0 + x.val = x.val; omega)
  simp only [hq]
  unfold rowS
  pointwise [tile0, k0_pay32, k0_pay31, k0_pay26, k0_pay27]

theorem tile1_apply (r : Fin 512) (d : Fin 128) : tile1 k v q (ix2 r d) = attn k v q (tq 1 r) d := by
  rw [attn_eq]
  unfold rowS tq
  pointwise [tile1, k0_pay33, k0_pay26, k0_pay27]

theorem tile2_apply (r : Fin 512) (d : Fin 128) : tile2 k v q (ix2 r d) = attn k v q (tq 2 r) d := by
  rw [attn_eq]
  unfold rowS tq
  pointwise [tile2, k0_pay34, k0_pay35, k0_pay36, k0_pay37, k0_pay38, k0_pay26, k0_pay27]

theorem tile3_apply (r : Fin 512) (d : Fin 128) : tile3 k v q (ix2 r d) = attn k v q (tq 3 r) d := by
  rw [attn_eq]
  unfold rowS tq
  pointwise [tile3, k0_pay39, k0_pay26, k0_pay27]

end Cert.KernelIdeal.Own

end
-- ==== Proof.RingSum.lean ====
/-
  What the exchange adds up, over extended reals: after the reduce-scatter and the all-gather every row block on every device
  is the sum of that block over the four devices.
-/
module

public import proofs.«01_k».proof.Proof.KernelIdealCommon
public import proofs.«01_k».proof.Proof.Spec

@[expose] public section

noncomputable section

namespace Cert.KernelIdeal.Own

open Cert.KernelIdeal Cert.KernelIdeal.Gen Idealize.ShloMosaic

/-- Reading a slot's value with its leading axis of one. -/
theorem lift_apply (X : Vec Ideal S256x1024 .bf16) (i : Fin 256) (j : Fin 1024) : lift X (ix3 0 i j) = X (ix2 i j) := by
  show shapeCast S1x256x1024 X (by decide) (ix3 0 i j) = X (ix2 i j)
  pointwise

/-- A hop of the reduce-scatter adds the block that arrived. -/
theorem pay4_apply (a b : Vec Ideal S256x1024 .f32) (i : Fin 256) (j : Fin 1024) :
    k0_pay4 a (lift (k0_pay2 b)) (ix2 i j) = a (ix2 i j) + b (ix2 i j) := by
  have e : k0_pay4 a (lift (k0_pay2 b)) (ix2 i j) = a (ix2 i j) + lift (k0_pay2 b) (ix3 0 i j) := by
    pointwise [k0_pay4]
  rw [e, lift_apply]
  pointwise [k0_pay2]

theorem pay4_lift (a b : Vec Ideal S256x1024 .f32) (y : S256x1024.Idx) : k0_pay4 a (lift (k0_pay2 b)) y = (a y + b y : EReal) := by
  obtain ⟨i, j, rfl⟩ : ∃ (i : Fin 256) (j : Fin 1024), y = ix2 i j := ⟨_, _, eq_ix2 y⟩
  exact pay4_apply a b i j

/-- A hop of the all-gather stores the block that arrived. -/
theorem pay19_apply (b : Vec Ideal S256x1024 .f32) (i : Fin 256) (j : Fin 1024) : k0_pay19 (lift (k0_pay2 b)) (ix2 i j) = b (ix2 i j) := by
  have e : k0_pay19 (lift (k0_pay2 b)) (ix2 i j) = lift (k0_pay2 b) (ix3 0 i j) := by
    pointwise [k0_pay19]
  rw [e, lift_apply]
  pointwise [k0_pay2]

theorem pay19_lift (b : Vec Ideal S256x1024 .f32) : k0_pay19 (lift (k0_pay2 b)) = b := by
  funext y
  obtain ⟨i, j, rfl⟩ : ∃ (i : Fin 256) (j : Fin 1024), y = ix2 i j := ⟨_, _, eq_ix2 y⟩
  exact pay19_apply b i j

variable (m : (ℓ : Loc nD τ sig) → Buf (Elt Ideal) ℓ)

/-- A block no hop has added to is the device's own. -/
theorem ch_own (l : Bool) (c j : Dev nD) : ∀ t, (∀ s, s < t → j ≠ back l (s + 1) c) → ch m t c l j = rowsOf l j (yv m c)
  | 0, _ => rfl
  | t + 1, h => by
    rw [ch, if_neg (h t (Nat.lt_succ_self t))]
    exact ch_own l c j t fun s hs => h s (by omega)

theorem back_ne (l : Bool) (c : Dev nD) : ∀ t : Fin 3, ∀ s : Fin 3, s < t → back l (t.val + 1) c ≠ back l (s.val + 1) c := by
  revert l c; decide

/-- The block a hop adds to holds the sum over the devices it has passed. -/
theorem ch_back (l : Bool) (y : S256x1024.Idx) : ∀ (t : ℕ), t ≤ 3 → ∀ c : Dev nD,
    ch m t c l (back l t c) y = (∑ s ∈ Finset.range (t + 1), rowsOf l (back l t c) (yv m (back l s c)) y : EReal)
  | 0, _, c => by rw [Finset.sum_range_one]; rfl
  | t + 1, ht, c => by
    rw [ch, if_pos rfl, pay4_lift, ch_own m l c _ t fun s hs => back_ne l c ⟨t, by omega⟩ ⟨s, by omega⟩ hs, ch_back l y t (by omega) (src l c),
      Finset.sum_range_succ' _ (t + 1), add_comm]
    simp only [back_src]
    rfl

/-- Four hops in a direction visit every device. -/
theorem sum_back (l : Bool) (c : Dev nD) (f : Dev nD → EReal) : ∑ s ∈ Finset.range 4, f (back l s c) = ∑ d : Fin 4, f d := by
  have h : ∀ (l : Bool) (c : Dev nD), Function.Bijective fun s : Fin 4 => back l s.val c := by decide
  rw [← Fin.sum_univ_eq_sum_range (fun s => f (back l s c)) 4]
  exact Function.Bijective.sum_comp (h l c) f

/-- The block a device has gathered in full. -/
theorem ch_full (l : Bool) (c j : Dev nD) (h : j = back l 3 c) (y : S256x1024.Idx) :
    ch m 3 c l j y = (∑ d : Fin 4, rowsOf l j (yv m d) y : EReal) := by
  subst h
  rw [ch_back m l y 3 le_rfl c]
  exact sum_back l c fun d => rowsOf l (back l 3 c) (yv m d) y

/-- What a device sends in the all-gather is some device's full block. -/
theorem sent_eq (l : Bool) (k : Fin 3) (c : Dev nD) :
    ∃ c' : Dev nD, sent m l (3 + k.val) (src l c) = k0_pay2 (ch m 3 c' l (back l 3 c')) ∧ back l k.val c = back l 3 c' := by
  match k with
  | 0 => exact ⟨src l c, rfl, by revert l c; decide⟩
  | 1 => exact ⟨src l (src l c), rfl, by revert l c; decide⟩
  | 2 => exact ⟨src l (src l (src l c)), rfl, by revert l c; decide⟩

/-- The block after all hops of the all-gather is the sum of the four devices' blocks. -/
theorem ag_eq (c : Dev nD) (l : Bool) (j : Dev nD) (y : S256x1024.Idx) :
    ag m 3 c l j y = (∑ d : Fin 4, rowsOf l j (yv m d) y : EReal) := by
  have step : ∀ k, k ≤ 3 → ((∃ s, s < k ∧ j = back l s c) ∨ j = back l 3 c) →
      ag m k c l j y = (∑ d : Fin 4, rowsOf l j (yv m d) y : EReal) := by
    intro k
    induction k with
    | zero =>
      intro _ h
      rcases h with ⟨s, hs, _⟩ | h
      · exact absurd hs (Nat.not_lt_zero s)
      · exact ch_full m l c j h y
    | succ k ih =>
      intro hk h
      rw [ag]
      by_cases e : j = back l k c
      · rw [if_pos e]
        obtain ⟨c', h1, h2⟩ := sent_eq m l ⟨k, by omega⟩ c
        rw [show sent m l (3 + k) (src l c) = _ from h1, pay19_lift]
        have e' : j = back l 3 c' := e.trans h2
        rw [← e']
        exact ch_full m l c' j e' y
      · rw [if_neg e]
        refine ih (by omega) (h.imp_left ?_)
        rintro ⟨s, hs, hj⟩
        exact ⟨s, lt_of_le_of_ne (by omega) fun h => e (h ▸ hj), hj⟩
  refine step 3 le_rfl ?_
  have hc : ∀ (l : Bool) (c j : Dev nD), (∃ s : Fin 3, j = back l s.val c) ∨ j = back l 3 c := by decide
  exact (hc l c j).imp (fun ⟨s, hs⟩ => ⟨s.val, s.isLt, hs⟩) id

/-- The result on every device is the sum of the devices' projected rows. -/
theorem outF_eq (c : Dev nD) (i : Fin 2048) (n : Fin 1024) : outF m c (ix2 i n) = (∑ d : Fin 4, yv m d (ix2 i n) : EReal) := by
  unfold outF
  rw [ag_eq]
  refine Finset.sum_congr rfl fun d _ => ?_
  rw [rowsOf_apply]
  congr 1
  funext a
  apply Fin.ext
  match a with
  | ⟨0, _⟩ =>
    show ((if decide (1024 ≤ i.val) = true then 1024 else 0) + 256 * (i.val / 256 % 4)) + 1 * (i.val % 256) = i.val
    by_cases hl : 1024 ≤ i.val
    · rw [if_pos (decide_eq_true hl)]; omega
    · rw [if_neg (by rw [decide_eq_false hl]; exact Bool.false_ne_true)]; omega
  | ⟨1, _⟩ =>
    show 0 + 1 * n.val = n.val
    omega

end Cert.KernelIdeal.Own

end
-- ==== Proof.KernelValue.lean ====
/-
  The kernel's result, read at an index, over extended reals: the projected context of `Spec.out`, for real inputs.
-/
module

public import proofs.«01_k».proof.Proof.Tiles
public import proofs.«01_k».proof.Proof.RingSum
public import Idealize.ShloMosaic.Lib.Layout
public import Idealize.ShloMosaic.Lib.Pipeline.ValueKit

@[expose] public section

noncomputable section

namespace Cert.KernelIdeal.Own

open Cert.KernelIdeal Cert.KernelIdeal.Gen Idealize.ShloMosaic Idealize.ShloMosaic.TcCoe Cert.Softmax Cert.Spec

variable (m : (ℓ : Loc nD τ sig) → Buf (Elt Ideal) ℓ)

/-- An element of a float buffer, as the extended real it is. -/
abbrev rd (x : Ideal .f32) : EReal := x

/-! ## The arguments as the body reads them -/

/-- The window of x holds x, -/
theorem iblk0_apply (c : Dev nD) (i : Fin 2048) (k : Fin 1024) :
    (iblk m c 0 t0_0 : Vec Ideal S1x2048x1024 .f32) (ix3 0 i k) = (m ((c : Thread nD τ).loc main_arg0) : Vec Ideal S1x2048x1024 .f32) (ix3 0 i k) := by
  have e : ∀ a, win0_0.index t0_0 a = 0 := by decide
  blk_ext [iblk, V, e]
/-- that of Wq a device's columns of Wq, -/
theorem iblk1_apply (c : Dev nD) (i k : Fin 1024) :
    (iblk m c 1 t0_0 : Vec Ideal S1024x1024 .f32) (ix2 i k) = (m ((c : Thread nD τ).loc main_arg1) : Vec Ideal S1024x1024 .f32) (ix2 i k) := by
  have e : ∀ a, win0_1.index t0_0 a = 0 := by decide
  blk_ext [iblk, V, e]
/-- and that of Wo, at the last step, a device's rows of Wo. -/
theorem iblk2_apply (c : Dev nD) (i k : Fin 1024) :
    (iblk m c 2 t0_7 : Vec Ideal S1024x1024 .f32) (ix2 i k) = (m ((c : Thread nD τ).loc main_arg4) : Vec Ideal S1024x1024 .f32) (ix2 i k) := by
  have e : ∀ a, win0_2.index t0_7 a = 0 := by decide
  blk_ext [iblk, V, e]

/-- Head `t` of a device, among all heads. -/
def gh (c : Dev nD) (t : Fin grid0.N) : Fin 32 := ⟨8 * c.val + t.val, by
  have := c.isLt; have h : t.val < 8 := lt_of_lt_of_eq t.isLt N_0; change c.val < 4 at this; omega⟩

/-- Contents of the key or value argument. -/
abbrev kvArr (kv : Bool) (c : Dev nD) : Vec Ideal S1x2048x32x128 .f32 :=
  match kv with
  | false => m ((c : Thread nD τ).loc main_arg2)
  | true => m ((c : Thread nD τ).loc main_arg3)

/-- The keys or values a device reads at its step `t` are those of head `gh c t`. -/
theorem kS_apply (kv : Bool) (c : Dev nD) (t : Fin grid0.N) (j : Fin 2048) (d : Fin 128) :
    kS m kv c t (ix4 0 j 0 d) = kvArr m kv c (ix4 0 j (gh c t) d) := by
  have e : kS m kv c t = (kvA kv).view.readAt (Elt Ideal) (Rect.unit (s := S1x2048x32x128) (headO c t.val) S1x2048x1x128.size (headO_inb c t)).toLoadRect
      (kvV m kv c) := by
    funext y
    obtain ⟨i, rfl⟩ := (Shape.reshapeEquiv squeezes_S1x2048x1x128_S2048x1x128.numel_eq).surjective y
    unfold kS kvSq liftKv
    rw [Equiv.symm_apply_apply, View.readAt_apply, View.read_apply, View.read_apply]
    rfl
  rw [e]
  have ei : (Rect.unit (s := S1x2048x32x128) (headO c t.val) S1x2048x1x128.size (headO_inb c t)).idx (ix4 0 j 0 d) = ix4 0 j (gh c t) d := by
    funext a
    apply Fin.ext
    match a with
    | ⟨0, _⟩ => rfl
    | ⟨1, _⟩ => show 0 + 1 * j.val = j.val; omega
    | ⟨2, _⟩ => show 8 * c.val + t.val + 1 * 0 = 8 * c.val + t.val; omega
    | ⟨3, _⟩ => show 0 + 1 * d.val = d.val; omega
  cases kv
  · exact congrArg (kvArr m false c) ei
  · exact congrArg (kvArr m true c) ei

/-! ## The context -/

/-- A tile of a head at an index. -/
theorem tileV_apply (c : Dev nD) (t : Fin grid0.N) (n : Fin 4) (r : Fin 512) (d : Fin 128) :
    tileV m c t n (ix2 r d) = attn (kS m false c t) (kS m true c t) (qS m c t) (tq n r) d := by
  match n with
  | 0 => exact tile0_apply _ _ _ r d
  | 1 => exact tile1_apply _ _ _ r d
  | 2 => exact tile2_apply _ _ _ r d
  | 3 => exact tile3_apply _ _ _ r d

/-- The head of a column of a device's context. -/
def lh (k : Fin 1024) : Fin grid0.N := ⟨k.val / 128, by rw [N_0]; omega⟩
/-- A column's coordinate in its head. -/
def lc (k : Fin 1024) : Fin 128 := ⟨k.val % 128, Nat.mod_lt _ (by decide)⟩

/-- A device's context at a column is the attention of the column's head. -/
theorem ctxv_apply (c : Dev nD) (i : Fin 2048) (k : Fin 1024) :
    ctxv m c (ix2 i k) = attn (kS m false c (lh k)) (kS m true c (lh k)) (qS m c (lh k)) i (lc k) := by
  have e : ctxv m c (ix2 i k) = tileV m c (lh k) ⟨i.val / 512, by omega⟩ (ix2 ⟨i.val % 512, Nat.mod_lt _ (by decide)⟩ (lc k)) := by
    unfold ctxv
    congr 1
    funext a
    match a with
    | ⟨0, _⟩ => rfl
    | ⟨1, _⟩ => rfl
  rw [e, tileV_apply]
  congr 1
  apply Fin.ext
  show 512 * (i.val / 512) + i.val % 512 = i.val
  omega

/-! ## The whole, against arrays the devices' arguments are parts of -/

section Whole

variable (X : Vec Ideal S1x2048x1024 .f32) (Wq : (⟨2, ![1024, 4096]⟩ : Shape).Idx → EReal)
  (K W : Vec Ideal S1x2048x32x128 .f32) (Wo : (⟨2, ![4096, 1024]⟩ : Shape).Idx → EReal)

/-- Each device's arguments are its parts of the arrays. -/
structure Parts : Prop where
  x : ∀ c : Dev nD, m ((c : Thread nD τ).loc main_arg0) = X
  wq : ∀ c : Dev nD, m ((c : Thread nD τ).loc main_arg1) = Layout.block ⟨2, ![1024, 1024]⟩ ⟨2, ![1024, 4096]⟩ 1 4 c Wq
  k : ∀ c : Dev nD, m ((c : Thread nD τ).loc main_arg2) = K
  v : ∀ c : Dev nD, m ((c : Thread nD τ).loc main_arg3) = W
  wo : ∀ c : Dev nD, m ((c : Thread nD τ).loc main_arg4) = Layout.block ⟨2, ![1024, 1024]⟩ ⟨2, ![4096, 1024]⟩ 0 4 c Wo

variable {m X Wq K W Wo}

/-- A device's queries are the reference's of its heads, scaled. -/
theorem qS_apply (h : Parts m X Wq K W Wo) (c : Dev nD) (t : Fin grid0.N) (i : Fin 2048) (d : Fin 128) :
    qS m c t (ix2 i d) = query X Wq (gh c t) i d * scale := by
  have ht : t.val < 8 := lt_of_lt_of_eq t.isLt N_0
  have e : qS m c t (ix2 i d) = qv m c (ix2 i ⟨128 * t.val + d.val, by omega⟩) := by
    unfold qS
    rw [View.readAt_apply, View.read_apply]
    show qv m c _ = qv m c _
    congr 1
    funext a
    apply Fin.ext
    match a with
    | ⟨0, _⟩ => show 512 * 0 + 1 * i.val = i.val; omega
    | ⟨1, _⟩ => show 128 * t.val + 1 * d.val = 128 * t.val + d.val; omega
  have e' : qv m c (ix2 i ⟨128 * t.val + d.val, by omega⟩)
      = (∑ k : Fin 1024, rd ((iblk m c 0 t0_0 : Vec Ideal S1x2048x1024 .f32) (ix3 0 i k))
          * rd ((iblk m c 1 t0_0 : Vec Ideal S1024x1024 .f32) (ix2 k ⟨128 * t.val + d.val, by omega⟩))) * scale := by
    unfold scale rd
    pointwise [qv, k0_pay25]
  rw [e, e']
  unfold query rd
  refine congrArg (· * _) (Finset.sum_congr rfl fun k _ => ?_)
  rw [iblk0_apply, iblk1_apply, h.x, h.wq, Layout.block_apply]
  congr 2
  funext a
  apply Fin.ext
  match a with
  | ⟨0, _⟩ => rfl
  | ⟨1, _⟩ => show c.val * 1024 + (128 * t.val + d.val) = 128 * (8 * c.val + t.val) + d.val; omega

/-- A device's scores are the reference's of its heads. -/
theorem rowS_eq (h : Parts m X Wq K W Wo) (hX : ∀ i, Real? (X i)) (hW : ∀ i, Real? (Wq i)) (hK : ∀ i, Real? (K i))
    (c : Dev nD) (t : Fin grid0.N) (i j : Fin 2048) : rowS (kS m false c t) (qS m c t) i j = score X Wq K (gh c t) i j := by
  unfold rowS score
  rw [← sum_mul_real _ (fun d => real_mul (query_real hX hW _ _ _) (hK _)) scale_real]
  refine Finset.sum_congr rfl fun d _ => ?_
  rw [qS_apply h, kS_apply]
  rw [show kvArr m false c = K from h.k c]
  exact mul_right_comm _ _ _

/-- A device's context is the reference's of its heads. -/
theorem attn_ctx (h : Parts m X Wq K W Wo) (hX : ∀ i, Real? (X i)) (hW : ∀ i, Real? (Wq i)) (hK : ∀ i, Real? (K i))
    (c : Dev nD) (t : Fin grid0.N) (i : Fin 2048) (d : Fin 128) :
    attn (kS m false c t) (kS m true c t) (qS m c t) i d = ctx X Wq K W (gh c t) i d := by
  have e : rowW (kS m false c t) (qS m c t) i = wt (keep i) (score X Wq K (gh c t) i) := by
    funext j
    unfold rowW
    rw [show rowS (kS m false c t) (qS m c t) i = score X Wq K (gh c t) i from funext fun j => rowS_eq h hX hW hK c t i j]
  unfold attn ctx
  rw [e]
  refine congrArg (Ideal.div · _) (Finset.sum_congr rfl fun j _ => congrArg (fun y : EReal => wt (keep i) (score X Wq K (gh c t) i) j * y) ?_)
  rw [kS_apply, show kvArr m true c = W from h.v c]

/-- A device's projected rows are its part of the sum over the columns of the context. -/
theorem yv_apply (h : Parts m X Wq K W Wo) (hX : ∀ i, Real? (X i)) (hW : ∀ i, Real? (Wq i)) (hK : ∀ i, Real? (K i))
    (c : Dev nD) (i : Fin 2048) (n : Fin 1024) :
    yv m c (ix2 i n) = ∑ x : Fin 1024, (fun k : Fin 4096 => ctx X Wq K W (hd k) i (co k) * Wo (ix2 k n))
      ⟨1024 * c.val + x.val, by have := c.isLt; change c.val < 4 at this; omega⟩ := by
  have e : yv m c (ix2 i n) = ∑ k : Fin 1024, ctxv m c (ix2 i k) * rd ((iblk m c 2 t0_7 : Vec Ideal S1024x1024 .f32) (ix2 k n)) := by
    unfold rd
    pointwise [yv, k0_pay1]
  rw [e]
  unfold rd
  refine Finset.sum_congr rfl fun k _ => ?_
  have hc := c.isLt
  change c.val < 4 at hc
  rw [ctxv_apply, attn_ctx h hX hW hK, iblk2_apply, h.wo, Layout.block_apply]
  refine congrArg₂ (· * ·) (congrArg₂ (fun a b => ctx X Wq K W a i b) (Fin.ext ?_) (Fin.ext ?_)) (congrArg Wo ?_)
  · show 8 * c.val + k.val / 128 = (1024 * c.val + k.val) / 128; omega
  · show k.val % 128 = (1024 * c.val + k.val) % 128; omega
  · funext a
    apply Fin.ext
    match a with
    | ⟨0, _⟩ => show c.val * 1024 + k.val = 1024 * c.val + k.val; omega
    | ⟨1, _⟩ => rfl

/-- The result of every device, at an index. -/
theorem outF_apply (h : Parts m X Wq K W Wo) (hX : ∀ i, Real? (X i)) (hW : ∀ i, Real? (Wq i)) (hK : ∀ i, Real? (K i))
    (c : Dev nD) (i : Fin 2048) (n : Fin 1024) : outF m c (ix2 i n) = out X Wq K W Wo i n := by
  rw [outF_eq]
  unfold out
  rw [sum_four]
  exact Finset.sum_congr rfl fun d _ => yv_apply h hX hW hK d i n

end Whole

end Cert.KernelIdeal.Own

end
-- ==== Proof.RefValue.lean ====
/-
  The reference's result, read at an index: the projected context of `Spec.out`, when its scores are real numbers.
-/
module

public import proofs.«01_k».proof.Proof.Gen.ReferenceIdeal.Run
public import Idealize.ShloMosaic.Lib.ReduceAll
public import proofs.«01_k».proof.Proof.Spec

@[expose] public section

noncomputable section

namespace Cert.ReferenceIdeal.Own

open Cert.ReferenceIdeal Cert.ReferenceIdeal.Gen Idealize.ShloMosaic Idealize.ShloMosaic.TcCoe Cert.Softmax Cert.Spec

/-! ## The terms of the composed result, named -/

/-- The block of each position, a 32-bit word. -/
def blockT : IVec S2048 32 :=
  select (andi (cmpi .ne (signi (iotaInDim S2048 32 0)) (broadcastInDim S2048 ![] bcast_S_S2048 (signi (id (constantI S_ 32 64#32))))) (cmpi .ne (Host.remsi (iotaInDim S2048 32 0) (broadcastInDim S2048 ![] bcast_S_S2048 (id (constantI S_ 32 64#32)))) (broadcastInDim S2048 ![] bcast_S_S2048 (constantI S_ 32 0#32)))) (subi (Host.divsi (iotaInDim S2048 32 0) (broadcastInDim S2048 ![] bcast_S_S2048 (id (constantI S_ 32 64#32)))) (broadcastInDim S2048 ![] bcast_S_S2048 (constantI S_ 32 1#32))) (Host.divsi (iotaInDim S2048 32 0) (broadcastInDim S2048 ![] bcast_S_S2048 (id (constantI S_ 32 64#32))))

/-- The mask of the kept keys. -/
def maskT : IVec S2048x2048 1 :=
  cmpi .sle (broadcastInDim S2048x2048 ![0, 1] bcast_S1x2048_S2048x2048_0_1 (broadcastInDim S1x2048 ![1] bcast_S2048_S1x2048_1 blockT)) (broadcastInDim S2048x2048 ![0, 1] bcast_S2048x1_S2048x2048_0_1 (broadcastInDim S2048x1 ![0] bcast_S2048_S2048x1_0 blockT))

/-- Whether a query keeps any key. -/
def anyT : IVec S2048 1 := Host.reduce IntOp.ori maskT (constantI S_ 1 0#1) reducesTo_S2048x2048_S2048_d1 h_S_

/-- The scores. -/
def scoreT (x : FVec Ideal S1x2048x1024 .f32) (wq : FVec Ideal S1024x4096 .f32) (k : FVec Ideal S1x2048x32x128 .f32) : FVec Ideal S1x32x2048x2048 .f32 :=
  mulf (Host.dotGeneral dot_S1x2048x32x128_S1x2048x32x128_S1x32x2048x2048_3_3_1_1_02_02 none (shapeCast _ (Host.dotGeneral dot_S1x2048x1024_S1024x4096_S1x2048x4096_2_0_01_1_n_n none x wq) shapeCasts_S1x2048x4096_S1x2048x32x128) k) (broadcastInDim S1x32x2048x2048 ![] bcast_S_S1x32x2048x2048 (constant S_ .f32 0x3DB504F3#32))

/-- The scores under the mask. -/
def maskedT (s : FVec Ideal S1x32x2048x2048 .f32) : FVec Ideal S1x32x2048x2048 .f32 :=
  select (broadcastInDim S1x32x2048x2048 ![0, 1, 2, 3] bcast_S1x1x2048x2048_S1x32x2048x2048_0_1_2_3 (broadcastInDim S1x1x2048x2048 ![2, 3] bcast_S2048x2048_S1x1x2048x2048_2_3 maskT)) s (broadcastInDim S1x32x2048x2048 ![] bcast_S_S1x32x2048x2048 (id (constant S_ .f32 0xFF800000#32)))

/-- The exponentials of the masked scores less their maximum. -/
def expT (s : FVec Ideal S1x32x2048x2048 .f32) : FVec Ideal S1x32x2048x2048 .f32 :=
  Host.exp (subf s (broadcastInDim S1x32x2048x2048 ![0, 1, 2, 3] bcast_S1x32x2048x1_S1x32x2048x2048_0_1_2_3 (broadcastInDim S1x32x2048x1 ![0, 1, 2] bcast_S1x32x2048_S1x32x2048x1_0_1_2 (Host.reduce FloatOps.maximumf s (constant S_ .f32 0xFF800000#32) reducesTo_S1x32x2048x2048_S1x32x2048_d3 h_S_))))

/-- The normalised weights. -/
def weightT (a : IVec S2048 1) (w : FVec Ideal S1x32x2048x2048 .f32) : FVec Ideal S1x32x2048x2048 .f32 :=
  select (broadcastInDim S1x32x2048x2048 ![0, 1, 2, 3] bcast_S1x1x2048x1_S1x32x2048x2048_0_1_2_3 (broadcastInDim S1x1x2048x1 ![2] bcast_S2048_S1x1x2048x1_2 a)) (Host.divf w (broadcastInDim S1x32x2048x2048 ![0, 1, 2, 3] bcast_S1x32x2048x1_S1x32x2048x2048_0_1_2_3 (select (broadcastInDim S1x32x2048x1 ![0, 1, 2, 3] bcast_S1x1x2048x1_S1x32x2048x1_0_1_2_3 (broadcastInDim S1x1x2048x1 ![2] bcast_S2048_S1x1x2048x1_2 a)) (broadcastInDim S1x32x2048x1 ![0, 1, 2] bcast_S1x32x2048_S1x32x2048x1_0_1_2 (Host.reduceAdd w (constant S_ .f32 0x00000000#32) reducesTo_S1x32x2048x2048_S1x32x2048_d3 h_S_)) (broadcastInDim S1x32x2048x1 ![] bcast_S_S1x32x2048x1 (id (constant S_ .f32 0x3F800000#32)))))) (broadcastInDim S1x32x2048x2048 ![] bcast_S_S1x32x2048x2048 (id (constant S_ .f32 0x00000000#32)))

/-- The result from the weights. -/
def outT (v : FVec Ideal S1x2048x32x128 .f32) (w : FVec Ideal S1x32x2048x2048 .f32) (wo : FVec Ideal S4096x1024 .f32) : FVec Ideal S2048x1024 .f32 :=
  shapeCast _ (Host.dotGeneral dot_S1x2048x4096_S4096x1024_S1x2048x1024_2_0_01_1_n_n none (shapeCast _ (transpose S1x2048x32x128 [0, 3, 1, 2] (Host.dotGeneral dot_S1x2048x32x128_S1x32x2048x2048_S1x32x128x2048_1_3_3_2_02_01 none v w) transposes_S1x32x128x2048_S1x2048x32x128_0_3_1_2) shapeCasts_S1x2048x32x128_S1x2048x4096) wo) shapeCasts_S1x2048x1024_S2048x1024

theorem res_eq (m : (ℓ : Loc nD τ sig) → Buf (Elt Ideal) ℓ) (c : Dev nD) :
    Value.res_out0 m c
      = outT (m ((c : Thread nD τ).loc main_arg3))
          (weightT anyT (expT (maskedT (scoreT (m ((c : Thread nD τ).loc main_arg0)) (m ((c : Thread nD τ).loc main_arg1)) (m ((c : Thread nD τ).loc main_arg2))))))
          (m ((c : Thread nD τ).loc main_arg4)) := rfl

/-! ## The mask -/

theorem select_one {α : Type} (a b : α) : Scalar.select 1#1 a b = a := rfl

/-- The sign of a word, as the reference spells it. -/
def sgnWord (x : BitVec 32) : BitVec 32 := if x = 0 then 0 else if x.msb = true then -1 else 1

/-- The block a position falls in, as the reference works it out in 32-bit words. -/
def blockWord (n : ℕ) : BitVec 32 :=
  Scalar.select
    (IntOp.andi (IntOp.cmpi CmpIPredicate.ne (sgnWord (BitVec.ofNat 32 n)) (sgnWord 64#32))
      (IntOp.cmpi CmpIPredicate.ne (IntOp.remsi ArithUnit.host (BitVec.ofNat 32 n) 64#32) 0#32))
    (IntOp.subi (IntOp.divsi ArithUnit.host (BitVec.ofNat 32 n) 64#32) 1#32)
    (IntOp.divsi ArithUnit.host (BitVec.ofNat 32 n) 64#32)

theorem blockWord_eq (n : Fin 2048) : blockWord n.val = BitVec.ofNat 32 (n.val / 64) := by
  revert n; decide +kernel

/-- A position's block is its quotient by 64. -/
theorem blockT_apply (n : Fin 2048) : blockT (ix1 n) = BitVec.ofNat 32 (n.val / 64) := by
  rw [← blockWord_eq]
  unfold blockWord sgnWord blockT
  pointwise
  rfl

/-- Comparing two blocks as words compares them as numbers. -/
theorem sle_block (a b : Fin 32) : (IntOp.cmpi CmpIPredicate.sle (BitVec.ofNat 32 a.val) (BitVec.ofNat 32 b.val) = 1#1) ↔ a.val ≤ b.val := by
  revert a b; decide +kernel

theorem maskT_apply (i j : Fin 2048) : (maskT (ix2 i j) = 1#1) ↔ keep i j := by
  have e : maskT (ix2 i j) = IntOp.cmpi CmpIPredicate.sle (blockT (ix1 j)) (blockT (ix1 i)) := by
    pointwise [maskT]
  rw [e, blockT_apply, blockT_apply]
  exact sle_block ⟨j.val / 64, by omega⟩ ⟨i.val / 64, by omega⟩

theorem ori_one (a b : BitVec 1) (h : a = 1#1 ∨ b = 1#1) : IntOp.ori a b = 1#1 := by
  revert a b; decide

/-- A fold by `or` over all positions with a one among them is one. -/
theorem fold_ori (f : Fin 2048 → BitVec 1) (i : Fin 2048) (hi : f i = 1#1) : Finset.univ.fold IntOp.ori 0#1 f = 1#1 := by
  rw [← Finset.insert_erase (Finset.mem_univ i), Finset.fold_insert (Finset.notMem_erase i _)]
  exact ori_one _ _ (.inl hi)

/-- Every query keeps the key at its own position. -/
theorem anyT_apply (i : Fin 2048) : anyT (ix1 i) = 1#1 := by
  pointwise [anyT]
  exact fold_ori _ i ((maskT_apply i i).2 le_rfl)

/-! ## The weights -/

theorem scoreT_apply (x : FVec Ideal S1x2048x1024 .f32) (wq : FVec Ideal S1024x4096 .f32) (k : FVec Ideal S1x2048x32x128 .f32) (h : Fin 32) (i j : Fin 2048) :
    scoreT x wq k (ix4 0 h i j) = score x wq k h i j := by
  unfold score query scale col
  simp only [mul_comm 128]
  pointwise [scoreT]

theorem ofBits_ninf : Ideal.ofBits .f32 0xFF800000#32 = (⊥ : EReal) := rfl

theorem maskedT_apply (s : FVec Ideal S1x32x2048x2048 .f32) (h : Fin 32) (i j : Fin 2048) :
    maskedT s (ix4 0 h i j) = msk (keep i) (fun j => s (ix4 0 h i j)) j := by
  have e : maskedT s (ix4 0 h i j) = Scalar.select (maskT (ix2 i j)) (s (ix4 0 h i j)) (Ideal.ofBits .f32 0xFF800000#32) := by
    pointwise [maskedT]
    rfl
  rw [e, ofBits_ninf]
  unfold msk
  by_cases hk : keep i j
  · rw [if_pos hk]; exact if_pos ((maskT_apply i j).2 hk)
  · rw [if_neg hk]; exact if_neg (mt (maskT_apply i j).1 hk)

theorem expT_apply (s : FVec Ideal S1x32x2048x2048 .f32) (h : Fin 32) (i j : Fin 2048) :
    expT s (ix4 0 h i j) = Ideal.exp (s (ix4 0 h i j) - Finset.univ.fold max ⊥ fun j => s (ix4 0 h i j)) := by
  rw [← ofBits_ninf]
  pointwise [expT]

theorem weightT_apply (a : IVec S2048 1) (ha : ∀ i, a (ix1 i) = 1#1) (w : FVec Ideal S1x32x2048x2048 .f32) (h : Fin 32) (i j : Fin 2048) :
    weightT a w (ix4 0 h i j) = Ideal.div (w (ix4 0 h i j)) (∑ j', w (ix4 0 h i j')) := by
  pointwise [weightT]
  rw [ha, select_one, select_one]

/-- The result at an index. -/
theorem outT_apply (v : FVec Ideal S1x2048x32x128 .f32) (w : FVec Ideal S1x32x2048x2048 .f32) (wo : FVec Ideal S4096x1024 .f32)
    (i : Fin 2048) (n : Fin 1024) :
    outT v w wo (ix2 i n) = ∑ k : Fin 4096, (∑ j, v (ix4 0 j (hd k) (co k)) * w (ix4 0 (hd k) i j)) * wo (ix2 k n) := by
  unfold hd co
  pointwise [outT]

/-- The reference's result at an index, for real scores. -/
theorem res_apply (x : FVec Ideal S1x2048x1024 .f32) (wq : FVec Ideal S1024x4096 .f32) (k v : FVec Ideal S1x2048x32x128 .f32)
    (wo : FVec Ideal S4096x1024 .f32) (hs : ∀ h i j, Real? (score x wq k h i j)) (i : Fin 2048) (n : Fin 1024) :
    outT v (weightT anyT (expT (maskedT (scoreT x wq k)))) wo (ix2 i n) = out x wq k v wo i n := by
  rw [outT_apply]
  unfold out
  refine Finset.sum_congr rfl fun l _ => congrArg (· * _) ?_
  simp only [weightT_apply anyT anyT_apply, expT_apply, maskedT_apply, scoreT_apply]
  exact softmax_eq (keep i) (score x wq k (hd l) i) (fun j => v (ix4 0 j (hd l) (co l))) (hs (hd l) i) i (show i.val / 64 ≤ i.val / 64 from le_rfl)

end Cert.ReferenceIdeal.Own

end
-- ==== Proof.Algebraic.lean ====
/-
  The kernel and the reference compute the same array over the extended reals: every device ends with the reference's result.
-/
module

public import proofs.«01_k».proof.Defs
public import proofs.«01_k».proof.Proof.KernelIdealRun
public import proofs.«01_k».proof.Proof.KernelValue
public import proofs.«01_k».proof.Proof.RefValue
public import proofs.«01_k».proof.Proof.Finite

@[expose] public section

noncomputable section

namespace Cert.Algebraic

open Idealize.ShloMosaic Idealize.ShloMosaic.TcCoe Idealize.SL.Sem Cert.Softmax Cert.Spec

/-- If the columns of Wq on every device are real numbers, so is all of Wq. -/
theorem whole_real (W : (⟨2, ![1024, 4096]⟩ : Shape).Idx → EReal)
    (h : ∀ (c : Fin 4) (i : (⟨2, ![1024, 1024]⟩ : Shape).Idx), Real? ((Layout.block ⟨2, ![1024, 1024]⟩ ⟨2, ![1024, 4096]⟩ 1 4 c W) i))
    (i : (⟨2, ![1024, 4096]⟩ : Shape).Idx) : Real? (W i) := by
  obtain ⟨r, l, rfl⟩ : ∃ (r : Fin 1024) (l : Fin 4096), i = ix2 r l := ⟨_, _, eq_ix2 i⟩
  have e := h ⟨l.val / 1024, by omega⟩ (ix2 r ⟨l.val % 1024, Nat.mod_lt _ (by decide)⟩)
  rw [Layout.block_apply] at e
  convert e using 2
  funext a
  apply Fin.ext
  match a with
  | ⟨0, _⟩ => rfl
  | ⟨1, _⟩ => show l.val = l.val / 1024 * 1024 + l.val % 1024; omega

/-- On finite x, Wq and keys, each device's result is the reference's, whatever the values and Wo hold. -/
theorem algebraic : @Cert.algebraic_KernelIdeal_ReferenceIdeal_pre_finite_KernelIdeal Cert.KernelIdeal.Gen.facts Cert.ReferenceIdeal.Gen.facts
    Cert.Finite.facts_kernel := by
  intro m g m' g' hp ha
  have hr := fun c => @Cert.Finite.reals Cert.Finite.facts_kernel _ _ _ _ _ (hp c)
  have parts : Cert.KernelIdeal.Own.Parts m (m' ((0 : Dev Cert.ReferenceIdeal.nD).tc.loc Cert.ReferenceIdeal.main_arg0))
      (m' ((0 : Dev Cert.ReferenceIdeal.nD).tc.loc Cert.ReferenceIdeal.main_arg1)) (m' ((0 : Dev Cert.ReferenceIdeal.nD).tc.loc Cert.ReferenceIdeal.main_arg2))
      (m' ((0 : Dev Cert.ReferenceIdeal.nD).tc.loc Cert.ReferenceIdeal.main_arg3)) (m' ((0 : Dev Cert.ReferenceIdeal.nD).tc.loc Cert.ReferenceIdeal.main_arg4)) :=
    ⟨fun c => (ha c).1, fun c => (ha c).2.1, fun c => (ha c).2.2.1, fun c => (ha c).2.2.2.1, fun c => (ha c).2.2.2.2⟩
  have hX := parts.x 0 ▸ (hr 0).1
  have hK := parts.k 0 ▸ (hr 0).2.2
  have hW := whole_real (m' ((0 : Dev Cert.ReferenceIdeal.nD).tc.loc Cert.ReferenceIdeal.main_arg1)) fun c => parts.wq c ▸ (hr c).2.1
  have value : ∀ c, Cert.KernelIdeal.Own.outF m c = Cert.ReferenceIdeal.Value.res_out0 m' 0 := fun c => by
    funext y
    obtain ⟨i, n, rfl⟩ : ∃ (i : Fin 2048) (n : Fin 1024), y = ix2 i n := ⟨_, _, eq_ix2 y⟩
    rw [Cert.ReferenceIdeal.Own.res_eq]
    exact (Cert.KernelIdeal.Own.outF_apply parts hX hW hK c i n).trans
      (Cert.ReferenceIdeal.Own.res_apply _ _ _ _ _ (fun h i j => score_real hX hW hK h i j) i n).symm
  refine ⟨Cert.ReferenceIdeal.Value.res_out0 m' 0, ?_, ?_⟩
  · exact (θ_run Cert.KernelIdeal.defs _ _).mono (fun r h c => ⟨((h.1 c).1).trans (value c), (h.1 c).2⟩)
      (Cert.KernelIdeal.Own.run_main (F := Ideal) m g)
  · exact (θ_run Cert.ReferenceIdeal.defs _ _).mono (fun r h => h 0) (Cert.ReferenceIdeal.Value.run (F := Ideal) m' g')

end Cert.Algebraic

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.KernelIdealRun
public import proofs.«01_k».proof.Proof.Finite
public import proofs.«01_k».proof.Proof.Algebraic
public import Idealize.ShloMosaic.Adequacy
public import Idealize.ShloMosaic.Init

@[expose] public section

noncomputable section

namespace Cert.Proof

open Idealize.ShloMosaic Idealize.SL.Sem

/-- The kernel terminates, keeps its arguments and ends with every counter at zero. -/
theorem frame_kernel : Cert.quiescent_Kernel := fun m ρ _ => Cert.Kernel.Own.frame_main (F := Bits) m ρ
/-- So does its ideal reading. -/
theorem frame_kernelIdeal : Cert.quiescent_KernelIdeal := fun m ρ _ => Cert.KernelIdeal.Own.frame_main (F := Ideal) m ρ
/-- So does the reference, which has no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The claim: the frames, with and without the precondition, the ideal reading, and the value of the result. -/
theorem claim : Cert.Claim := ⟨Cert.Kernel.Gen.facts, Cert.KernelIdeal.Gen.facts, Cert.ReferenceIdeal.Gen.facts,
  Cert.Finite.facts_kernel, Cert.Finite.facts_reference,
  frame_kernel, frame_kernelIdeal, fun m ρ _ => frame_kernelIdeal m ρ trivial, frame_reference, fun m ρ _ => frame_reference m ρ trivial, trivial,
  Cert.Algebraic.algebraic⟩

end Cert.Proof

end
